-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_queries_and_keys : Cert.Pre_finite_queries_and_keys.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_queries_and_keys.lean ====
abbrev S2x16384x8x128 : Shape := ⟨4, ![2, 16384, 8, 128]⟩
abbrev S2x16384x2x128 : Shape := ⟨4, ![2, 16384, 2, 128]⟩
abbrev S_ : Shape := ⟨0, ![]⟩

class Facts : Prop where
  bcast_S_S2x16384x8x128 : S_.BroadcastsInDim S2x16384x8x128 (![] : Fin 0 → Fin S2x16384x8x128.rank)
  reducesTo_S2x16384x8x128_S_d0_1_2_3 : S2x16384x8x128.ReducesTo [0, 1, 2, 3] S_
  h_S_ : 0 < S_.numel
  bcast_S_S2x16384x2x128 : S_.BroadcastsInDim S2x16384x2x128 (![] : Fin 0 → Fin S2x16384x2x128.rank)
  reducesTo_S2x16384x2x128_S_d0_1_2_3 : S2x16384x2x128.ReducesTo [0, 1, 2, 3] S_

variable [Facts]

def fn {F : FTy → Type} [FloatOps F] (main_arg0 : FVec F S2x16384x8x128 .f32) (main_arg1 : FVec F S2x16384x2x128 .f32) (main_arg2 : FVec F S2x16384x2x128 .f32) : IVec S_ 1 :=
  let main_v0 : FVec F S2x16384x8x128 .f32 := Host.absf main_arg0
  let main_cst : FVec F S_ .f32 := constant S_ .f32 0x7F800000#32
  let main_v1 : FVec F S2x16384x8x128 .f32 := broadcastInDim S2x16384x8x128 ![] bcast_S_S2x16384x8x128 main_cst
  let main_v2 : IVec S2x16384x8x128 1 := cmpf .olt main_v0 main_v1
  let main_c : IVec S_ 1 := constantI S_ 1 1#1
  let main_v3 : IVec S_ 1 := (fun x v => Host.reduce IntOp.andi x v reducesTo_S2x16384x8x128_S_d0_1_2_3 h_S_) main_v2 main_c
  let main_v4 : FVec F S2x16384x2x128 .f32 := Host.absf main_arg1
  let main_cst_0 : FVec F S_ .f32 := constant S_ .f32 0x7F800000#32
  let main_v5 : FVec F S2x16384x2x128 .f32 := broadcastInDim S2x16384x2x128 ![] bcast_S_S2x16384x2x128 main_cst_0
  let main_v6 : IVec S2x16384x2x128 1 := cmpf .olt main_v4 main_v5
  let main_c_1 : IVec S_ 1 := constantI S_ 1 1#1
  let main_v7 : IVec S_ 1 := (fun x v => Host.reduce IntOp.andi x v reducesTo_S2x16384x2x128_S_d0_1_2_3 h_S_) main_v6 main_c_1
  let main_v8 : IVec S_ 1 := andi main_v3 main_v7
  main_v8
-- ==== Kernel.lean ====
abbrev S2x16384x8x128 : Shape := ⟨4, ![2, 16384, 8, 128]⟩
abbrev S2x16384x2x128 : Shape := ⟨4, ![2, 16384, 2, 128]⟩
abbrev S_ : Shape := ⟨0, ![]⟩
abbrev S2x8x128x16384 : Shape := ⟨4, ![2, 8, 128, 16384]⟩
abbrev S2x2x16384x128 : Shape := ⟨4, ![2, 2, 16384, 128]⟩
abbrev S2x2x128x16384 : Shape := ⟨4, ![2, 2, 128, 16384]⟩
abbrev S2x16384x1024 : Shape := ⟨3, ![2, 16384, 1024]⟩
abbrev S1x4x128x512 : Shape := ⟨4, ![1, 4, 128, 512]⟩
abbrev S1x1x16384x128 : Shape := ⟨4, ![1, 1, 16384, 128]⟩
abbrev S1x1x128x16384 : Shape := ⟨4, ![1, 1, 128, 16384]⟩
abbrev S1x512x512 : Shape := ⟨3, ![1, 512, 512]⟩
abbrev S1x1 : Shape := ⟨2, ![1, 1]⟩
abbrev S4x1x512 : Shape := ⟨3, ![4, 1, 512]⟩
abbrev S4x128x512 : Shape := ⟨3, ![4, 128, 512]⟩
abbrev S4x1024x512 : Shape := ⟨3, ![4, 1024, 512]⟩
abbrev S1024x1 : Shape := ⟨2, ![1024, 1]⟩
abbrev S1x1x1024x128 : Shape := ⟨4, ![1, 1, 1024, 128]⟩
abbrev S1024x128 : Shape := ⟨2, ![1024, 128]⟩
abbrev S1024 : Shape := ⟨1, ![1024]⟩
abbrev S1 : Shape := ⟨1, ![1]⟩
abbrev S1x1x128x512 : Shape := ⟨4, ![1, 1, 128, 512]⟩
abbrev S128x512 : Shape := ⟨2, ![128, 512]⟩
abbrev S512 : Shape := ⟨1, ![512]⟩
abbrev S1x512 : Shape := ⟨2, ![1, 512]⟩
abbrev S1x1x512 : Shape := ⟨3, ![1, 1, 512]⟩
abbrev S1x4x1x512 : Shape := ⟨4, ![1, 4, 1, 512]⟩
abbrev S1x1x1x1 : Shape := ⟨4, ![1, 1, 1, 1]⟩
abbrev S1024x512 : Shape := ⟨2, ![1024, 512]⟩
abbrev S1x1024x512 : Shape := ⟨3, ![1, 1024, 512]⟩
abbrev S1x1x128x1024 : Shape := ⟨4, ![1, 1, 128, 1024]⟩
abbrev S128x1024 : Shape := ⟨2, ![128, 1024]⟩
abbrev S1x128x512 : Shape := ⟨3, ![1, 128, 512]⟩
abbrev S512x128 : Shape := ⟨2, ![512, 128]⟩
abbrev S1x512x128 : Shape := ⟨3, ![1, 512, 128]⟩

abbrev nBuf : Space → Nat
  | .hbm => 19
  | .vmem => 14
  | .smem => 0
  | _ => 0

abbrev bufTy : (tb : Table) → Fin (tcTables nBuf tb) → BufTy
  | .hbm, ⟨0, _⟩ => ⟨S2x16384x8x128, .f32⟩
  | .hbm, ⟨1, _⟩ => ⟨S2x16384x2x128, .f32⟩
  | .hbm, ⟨2, _⟩ => ⟨S2x16384x2x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2x16384x8x128, .f32⟩
  | .hbm, ⟨11, _⟩ => ⟨S2x16384x8x128, .f32⟩
  | .hbm, ⟨12, _⟩ => ⟨S2x8x128x16384, .f32⟩
  | .hbm, ⟨13, _⟩ => ⟨S2x8x128x16384, .bf16⟩
  | .hbm, ⟨14, _⟩ => ⟨S2x2x16384x128, .f32⟩
  | .hbm, ⟨15, _⟩ => ⟨S2x2x16384x128, .bf16⟩
  | .hbm, ⟨16, _⟩ => ⟨S2x2x128x16384, .f32⟩
  | .hbm, ⟨17, _⟩ => ⟨S2x2x128x16384, .bf16⟩
  | .hbm, ⟨18, _⟩ => ⟨S2x16384x1024, .bf16⟩
  | .local _ .vmem, ⟨0, _⟩ => ⟨S1x4x128x512, .bf16⟩
  | .local _ .vmem, ⟨1, _⟩ => ⟨S1x4x128x512, .bf16⟩
  | .local _ .vmem, ⟨2, _⟩ => ⟨S1x1x16384x128, .bf16⟩
  | .local _ .vmem, ⟨3, _⟩ => ⟨S1x1x16384x128, .bf16⟩
  | .local _ .vmem, ⟨4, _⟩ => ⟨S1x1x128x16384, .bf16⟩
  | .local _ .vmem, ⟨5, _⟩ => ⟨S1x1x128x16384, .bf16⟩
  | .local _ .vmem, ⟨6, _⟩ => ⟨S1x512x512, .bf16⟩
  | .local _ .vmem, ⟨7, _⟩ => ⟨S1x512x512, .bf16⟩
  | .local _ .vmem, ⟨8, _⟩ => ⟨S1x1, .f32⟩
  | .local _ .vmem, ⟨9, _⟩ => ⟨S4x1x512, .f32⟩
  | .local _ .vmem, ⟨10, _⟩ => ⟨S4x1x512, .f32⟩
  | .local _ .vmem, ⟨11, _⟩ => ⟨S4x128x512, .f32⟩
  | .local _ .vmem, ⟨12, _⟩ => ⟨S4x1024x512, .f32⟩
  | .local _ .vmem, ⟨13, _⟩ => ⟨S4x1024x512, .f32⟩
  | _, _ => ⟨S2x16384x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 32], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_85 : BitVec 32 := 0#32
  let c16_i32 : BitVec 32 := 16#32
  let v119 : BitVec 32 := Scalar.addi c0_i32_85 c16_i32
  let c1_i32 : BitVec 32 := 1#32
  ⟨c0_i32_85, v119, c1_i32⟩
def k0_mult1 (k0_t1 : Fin k0_t1_loop.trips) : BitVec 32 :=
  let c0_i32_85 : BitVec 32 := 0#32
  let c1_i32 : BitVec 32 := 1#32
  let arg13 : BitVec 32 := Scf.iv c0_i32_85 c1_i32 k0_t1
  let c1024_i32 : BitVec 32 := 1024#32
  let v126 : BitVec 32 := Scalar.muli arg13 c1024_i32
  v126
def k0_off1 (k0_t1 : Fin k0_t1_loop.trips) : Fin 4 → Nat :=
  let c0_90 : Index := 0#32
  let c0_91 : Index := 0#32
  let c0_i32_85 : BitVec 32 := 0#32
  let c1_i32 : BitVec 32 := 1#32
  let arg13 : BitVec 32 := Scf.iv c0_i32_85 c1_i32 k0_t1
  let c1024_i32 : BitVec 32 := 1024#32
  let v126 : BitVec 32 := Scalar.muli arg13 c1024_i32
  let v127 : BitVec 32 := v126
  let v128 : Index := Scalar.indexCast v127
  let c0_92 : Index := 0#32
  ![0, 0, v128.toNat, 0]
def k0_mult2 : BitVec 32 :=
  let c0_i32_84 : BitVec 32 := 0#32
  c0_i32_84
def k0_mult3 : BitVec 32 :=
  let c1024_i32 : BitVec 32 := 1024#32
  c1024_i32
def k0_mult4 : BitVec 32 :=
  let c0_i32_158 : BitVec 32 := 0#32
  c0_i32_158
def k0_mult5 : BitVec 32 :=
  let c2048_i32 : BitVec 32 := 2048#32
  c2048_i32
def k0_mult6 : BitVec 32 :=
  let c1024_i32_277 : BitVec 32 := 1024#32
  c1024_i32_277
def k0_mult7 : BitVec 32 :=
  let c3072_i32 : BitVec 32 := 3072#32
  c3072_i32
def k0_mult8 : BitVec 32 :=
  let c2048_i32_396 : BitVec 32 := 2048#32
  c2048_i32_396
def k0_mult9 : BitVec 32 :=
  let c4096_i32 : BitVec 32 := 4096#32
  c4096_i32
def k0_mult10 : BitVec 32 :=
  let c3072_i32_515 : BitVec 32 := 3072#32
  c3072_i32_515
def k0_mult11 : BitVec 32 :=
  let c5120_i32 : BitVec 32 := 5120#32
  c5120_i32
def k0_mult12 : BitVec 32 :=
  let c4096_i32_634 : BitVec 32 := 4096#32
  c4096_i32_634
def k0_mult13 : BitVec 32 :=
  let c6144_i32 : BitVec 32 := 6144#32
  c6144_i32
def k0_mult14 : BitVec 32 :=
  let c5120_i32_753 : BitVec 32 := 5120#32
  c5120_i32_753
def k0_mult15 : BitVec 32 :=
  let c7168_i32 : BitVec 32 := 7168#32
  c7168_i32
def k0_mult16 : BitVec 32 :=
  let c6144_i32_872 : BitVec 32 := 6144#32
  c6144_i32_872
def k0_mult17 : BitVec 32 :=
  let c8192_i32 : BitVec 32 := 8192#32
  c8192_i32
def k0_mult18 : BitVec 32 :=
  let c7168_i32_991 : BitVec 32 := 7168#32
  c7168_i32_991
def k0_mult19 : BitVec 32 :=
  let c9216_i32 : BitVec 32 := 9216#32
  c9216_i32
def k0_mult20 : BitVec 32 :=
  let c8192_i32_1110 : BitVec 32 := 8192#32
  c8192_i32_1110
def k0_mult21 : BitVec 32 :=
  let c10240_i32 : BitVec 32 := 10240#32
  c10240_i32
def k0_mult22 : BitVec 32 :=
  let c9216_i32_1229 : BitVec 32 := 9216#32
  c9216_i32_1229
def k0_mult23 : BitVec 32 :=
  let c11264_i32 : BitVec 32 := 11264#32
  c11264_i32
def k0_mult24 : BitVec 32 :=
  let c10240_i32_1348 : BitVec 32 := 10240#32
  c10240_i32_1348
def k0_mult25 : BitVec 32 :=
  let c12288_i32 : BitVec 32 := 12288#32
  c12288_i32
def k0_mult26 : BitVec 32 :=
  let c11264_i32_1467 : BitVec 32 := 11264#32
  c11264_i32_1467
def k0_mult27 : BitVec 32 :=
  let c13312_i32 : BitVec 32 := 13312#32
  c13312_i32
def k0_mult28 : BitVec 32 :=
  let c12288_i32_1586 : BitVec 32 := 12288#32
  c12288_i32_1586
def k0_mult29 : BitVec 32 :=
  let c14336_i32 : BitVec 32 := 14336#32
  c14336_i32
def k0_mult30 : BitVec 32 :=
  let c13312_i32_1705 : BitVec 32 := 13312#32
  c13312_i32_1705
def k0_mult31 : BitVec 32 :=
  let c15360_i32 : BitVec 32 := 15360#32
  c15360_i32
def k0_mult32 : BitVec 32 :=
  let c14336_i32_1824 : BitVec 32 := 14336#32
  c14336_i32_1824
def k0_mult33 : BitVec 32 :=
  let c15360_i32_1908 : BitVec 32 := 15360#32
  c15360_i32_1908
@[reducible] def k0_t2_loop : Scf.Loop 32 :=
  let c0_i32_88 : BitVec 32 := 0#32
  let c16_i32 : BitVec 32 := 16#32
  let v122 : BitVec 32 := Scalar.addi c0_i32_88 c16_i32
  let c1_i32 : BitVec 32 := 1#32
  ⟨c0_i32_88, v122, c1_i32⟩
def k0_mult34 (k0_t2 : Fin k0_t2_loop.trips) : BitVec 32 :=
  let c0_i32_88 : BitVec 32 := 0#32
  let c1_i32 : BitVec 32 := 1#32
  let arg13 : BitVec 32 := Scf.iv c0_i32_88 c1_i32 k0_t2
  let c1024_i32 : BitVec 32 := 1024#32
  let v123 : BitVec 32 := Scalar.muli arg13 c1024_i32
  v123
def k0_off2 (k0_t2 : Fin k0_t2_loop.trips) : Fin 4 → Nat :=
  let c0_90 : Index := 0#32
  let c0_91 : Index := 0#32
  let c0_i32_88 : BitVec 32 := 0#32
  let c1_i32 : BitVec 32 := 1#32
  let arg13 : BitVec 32 := Scf.iv c0_i32_88 c1_i32 k0_t2
  let c1024_i32 : BitVec 32 := 1024#32
  let v123 : BitVec 32 := Scalar.muli arg13 c1024_i32
  let v124 : BitVec 32 := v123
  let v125 : Index := Scalar.indexCast v124
  let c0_92 : Index := 0#32
  ![0, 0, v125.toNat, 0]
def k0_mult35 (k0_t2 : Fin k0_t2_loop.trips) : BitVec 32 :=
  let c0_i32_88 : BitVec 32 := 0#32
  let c1_i32 : BitVec 32 := 1#32
  let arg13 : BitVec 32 := Scf.iv c0_i32_88 c1_i32 k0_t2
  let c1024_i32_93 : BitVec 32 := 1024#32
  let v128 : BitVec 32 := Scalar.muli arg13 c1024_i32_93
  v128
def k0_off3 (k0_t2 : Fin k0_t2_loop.trips) : Fin 4 → Nat :=
  let c0_94 : Index := 0#32
  let c0_95 : Index := 0#32
  let c0_96 : Index := 0#32
  let c0_i32_88 : BitVec 32 := 0#32
  let c1_i32 : BitVec 32 := 1#32
  let arg13 : BitVec 32 := Scf.iv c0_i32_88 c1_i32 k0_t2
  let c1024_i32_93 : BitVec 32 := 1024#32
  let v128 : BitVec 32 := Scalar.muli arg13 c1024_i32_93
  let v129 : BitVec 32 := v128
  let v130 : Index := Scalar.indexCast v129
  ![0, 0, 0, v130.toNat]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x128x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x16384x8x128 : Shape := ⟨4, ![2, 16384, 8, 128]⟩
abbrev S2x16384x2x128 : Shape := ⟨4, ![2, 16384, 2, 128]⟩
abbrev S_ : Shape := ⟨0, ![]⟩
abbrev S2x16384x2x4x128 : Shape := ⟨5, ![2, 16384, 2, 4, 128]⟩
abbrev S2x2x16384x16384x4 : Shape := ⟨5, ![2, 2, 16384, 16384, 4]⟩
abbrev S2x2x4x16384x16384 : Shape := ⟨5, ![2, 2, 4, 16384, 16384]⟩
abbrev S2x2x4x16384 : Shape := ⟨4, ![2, 2, 4, 16384]⟩
abbrev S2x2x4x16384x1 : Shape := ⟨5, ![2, 2, 4, 16384, 1]⟩
abbrev S2x2x128x4x16384 : Shape := ⟨5, ![2, 2, 128, 4, 16384]⟩
abbrev S2x16384x1024 : Shape := ⟨3, ![2, 16384, 1024]⟩

abbrev nBuf : Space → Nat
  | .hbm => 30
  | .vmem => 0
  | .smem => 0
  | _ => 0

abbrev bufTy : (tb : Table) → Fin (tcTables nBuf tb) → BufTy
  | .hbm, ⟨0, _⟩ => ⟨S2x16384x8x128, .f32⟩
  | .hbm, ⟨1, _⟩ => ⟨S2x16384x2x128, .f32⟩
  | .hbm, ⟨2, _⟩ => ⟨S2x16384x2x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S2x16384x2x4x128, .f32⟩
  | .hbm, ⟨8, _⟩ => ⟨S2x2x16384x16384x4, .f32⟩
  | .hbm, ⟨9, _⟩ => ⟨S2x2x4x16384x16384, .f32⟩
  | .hbm, ⟨10, _⟩ => ⟨S2x2x4x16384x16384, .f32⟩
  | .hbm, ⟨11, _⟩ => ⟨S2x2x4x16384x16384, .f32⟩
  | .hbm, ⟨12, _⟩ => ⟨S_, .f32⟩
  | .hbm, ⟨13, _⟩ => ⟨S2x2x4x16384, .f32⟩
  | .hbm, ⟨14, _⟩ => ⟨S_, .f32⟩
  | .hbm, ⟨15, _⟩ => ⟨S2x2x4x16384, .f32⟩
  | .hbm, ⟨16, _⟩ => ⟨S2x2x4x16384, .f32⟩
  | .hbm, ⟨17, _⟩ => ⟨S2x2x4x16384x1, .f32⟩
  | .hbm, ⟨18, _⟩ => ⟨S2x2x4x16384x16384, .f32⟩
  | .hbm, ⟨19, _⟩ => ⟨S2x2x4x16384x16384, .f32⟩
  | .hbm, ⟨20, _⟩ => ⟨S2x2x4x16384x16384, .f32⟩
  | .hbm, ⟨21, _⟩ => ⟨S_, .f32⟩
  | .hbm, ⟨22, _⟩ => ⟨S2x2x4x16384, .f32⟩
  | .hbm, ⟨23, _⟩ => ⟨S2x2x4x16384x1, .f32⟩
  | .hbm, ⟨24, _⟩ => ⟨S2x2x4x16384x16384, .f32⟩
  | .hbm, ⟨25, _⟩ => ⟨S2x2x4x16384x16384, .f32⟩
  | .hbm, ⟨26, _⟩ => ⟨S2x2x128x4x16384, .f32⟩
  | .hbm, ⟨27, _⟩ => ⟨S2x16384x2x4x128, .f32⟩
  | .hbm, ⟨28, _⟩ => ⟨S2x16384x1024, .f32⟩
  | .hbm, ⟨29, _⟩ => ⟨S2x16384x1024, .bf16⟩
  | _, _ => ⟨S2x16384x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel2.lean ====
abbrev S2x16384x2048 : Shape := ⟨3, ![2, 16384, 2048]⟩
abbrev S2048 : Shape := ⟨1, ![2048]⟩
abbrev S2048x5632 : Shape := ⟨2, ![2048, 5632]⟩
abbrev S5632x2048 : Shape := ⟨2, ![5632, 2048]⟩
abbrev S32768x2048 : Shape := ⟨2, ![32768, 2048]⟩
abbrev S1x2048 : Shape := ⟨2, ![1, 2048]⟩
abbrev S512x2048 : Shape := ⟨2, ![512, 2048]⟩
abbrev S2048x2816 : Shape := ⟨2, ![2048, 2816]⟩
abbrev S2816x2048 : Shape := ⟨2, ![2816, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S1024x2048 : Shape := ⟨2, ![1024, 2048]⟩
abbrev S2048x768 : Shape := ⟨2, ![2048, 768]⟩
abbrev S512x768 : Shape := ⟨2, ![512, 768]⟩
abbrev S768x2048 : Shape := ⟨2, ![768, 2048]⟩

abbrev nBuf : Space → Nat
  | .hbm => 13
  | .vmem => 19
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S32768x2048, .f32⟩
  | .hbm, ⟨6, _⟩ => ⟨S1x2048, .f32⟩
  | .hbm, ⟨7, _⟩ => ⟨S2048x5632, .bf16⟩
  | .hbm, ⟨8, _⟩ => ⟨S2048x5632, .bf16⟩
  | .hbm, ⟨9, _⟩ => ⟨S5632x2048, .bf16⟩
  | .hbm, ⟨10, _⟩ => ⟨S32768x2048, .f32⟩
  | .hbm, ⟨11, _⟩ => ⟨S32768x2048, .bf16⟩
  | .hbm, ⟨12, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2816, .bf16⟩
  | .local _ .vmem, ⟨4, _⟩ => ⟨S2048x2816, .bf16⟩
  | .local _ .vmem, ⟨5, _⟩ => ⟨S2816x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | .local _ .vmem, ⟨13, _⟩ => ⟨S512x2048, .f32⟩
  | .local _ .vmem, ⟨14, _⟩ => ⟨S2048x2816, .bf16⟩
  | .local _ .vmem, ⟨15, _⟩ => ⟨S2048x2816, .bf16⟩
  | .local _ .vmem, ⟨16, _⟩ => ⟨S2816x2048, .bf16⟩
  | .local _ .vmem, ⟨17, _⟩ => ⟨S512x2048, .f32⟩
  | .local _ .vmem, ⟨18, _⟩ => ⟨S512x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc1_transform_3 (i : grid1.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc1_transform_4 (i : grid1.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2048x2816 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x2816 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2816x2048 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== Reference2Ideal.lean ====
abbrev S2x16384x2048 : Shape := ⟨3, ![2, 16384, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x5632 : Shape := ⟨3, ![2, 16384, 5632]⟩
abbrev S32768x2048 : Shape := ⟨2, ![32768, 2048]⟩

abbrev nBuf : Space → Nat
  | .hbm => 39
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2x16384x2048, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x2048, .f32⟩
  | .hbm, ⟨17, _⟩ => ⟨S2x16384x2048, .f32⟩
  | .hbm, ⟨18, _⟩ => ⟨S1x1x2048, .f32⟩
  | .hbm, ⟨19, _⟩ => ⟨S2x16384x2048, .f32⟩
  | .hbm, ⟨20, _⟩ => ⟨S2x16384x2048, .f32⟩
  | .hbm, ⟨21, _⟩ => ⟨S2x16384x5632, .f32⟩
  | .hbm, ⟨22, _⟩ => ⟨S2x16384x5632, .f32⟩
  | .hbm, ⟨23, _⟩ => ⟨S2x16384x5632, .f32⟩
  | .hbm, ⟨24, _⟩ => ⟨S_, .f32⟩
  | .hbm, ⟨25, _⟩ => ⟨S2x16384x5632, .f32⟩
  | .hbm, ⟨26, _⟩ => ⟨S2x16384x5632, .f32⟩
  | .hbm, ⟨27, _⟩ => ⟨S_, .f32⟩
  | .hbm, ⟨28, _⟩ => ⟨S2x16384x5632, .f32⟩
  | .hbm, ⟨29, _⟩ => ⟨S2x16384x5632, .f32⟩
  | .hbm, ⟨30, _⟩ => ⟨S2x16384x5632, .f32⟩
  | .hbm, ⟨31, _⟩ => ⟨S2x16384x5632, .f32⟩
  | .hbm, ⟨32, _⟩ => ⟨S2x16384x5632, .f32⟩
  | .hbm, ⟨33, _⟩ => ⟨S2x16384x2048, .f32⟩
  | .hbm, ⟨34, _⟩ => ⟨S_, .f32⟩
  | .hbm, ⟨35, _⟩ => ⟨S2x16384x2048, .f32⟩
  | .hbm, ⟨36, _⟩ => ⟨S2x16384x2048, .f32⟩
  | .hbm, ⟨37, _⟩ => ⟨S2x16384x2048, .f32⟩
  | .hbm, ⟨38, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Kernel3.lean ====
abbrev S2x16384x2048 : Shape := ⟨3, ![2, 16384, 2048]⟩
abbrev S2x16384x256 : Shape := ⟨3, ![2, 16384, 256]⟩
abbrev S2048 : Shape := ⟨1, ![2048]⟩
abbrev S2048x2048 : Shape := ⟨2, ![2048, 2048]⟩
abbrev S256x2048 : Shape := ⟨2, ![256, 2048]⟩
abbrev S32768x2048 : Shape := ⟨2, ![32768, 2048]⟩
abbrev S32768x256 : Shape := ⟨2, ![32768, 256]⟩
abbrev S1x2048 : Shape := ⟨2, ![1, 2048]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 13
  | .vmem => 10
  | .smem => 0
  | _ => 0

abbrev bufTy : (tb : Table) → Fin (tcTables nBuf tb) → BufTy
  | .hbm, ⟨0, _⟩ => ⟨S2x16384x2048, .f32⟩
  | .hbm, ⟨1, _⟩ => ⟨S2x16384x256, .f32⟩
  | .hbm, ⟨2, _⟩ => ⟨S2048, .f32⟩
  | .hbm, ⟨3, _⟩ => ⟨S2048x2048, .f32⟩
  | .hbm, ⟨4, _⟩ => ⟨S256x2048, .f32⟩
  | .hbm, ⟨5, _⟩ => ⟨S2048, .f32⟩
  | .hbm, ⟨6, _⟩ => ⟨S32768x2048, .f32⟩
  | .hbm, ⟨7, _⟩ => ⟨S32768x256, .f32⟩
  | .hbm, ⟨8, _⟩ => ⟨S1x2048, .f32⟩
  | .hbm, ⟨9, _⟩ => ⟨S2048x2048, .bf16⟩
  | .hbm, ⟨10, _⟩ => ⟨S256x2048, .bf16⟩
  | .hbm, ⟨11, _⟩ => ⟨S1x2048, .f32⟩
  | .hbm, ⟨12, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S1x2048, .f32⟩
  | .local _ .vmem, ⟨5, _⟩ => ⟨S2048x2048, .bf16⟩
  | .local _ .vmem, ⟨6, _⟩ => ⟨S256x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S2x16384x2048 : Shape := ⟨3, ![2, 16384, 2048]⟩
abbrev S2x16384x256 : Shape := ⟨3, ![2, 16384, 256]⟩
abbrev S2048 : Shape := ⟨1, ![2048]⟩
abbrev S2048x2048 : Shape := ⟨2, ![2048, 2048]⟩
abbrev S256x2048 : Shape := ⟨2, ![256, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S32768x2048 : Shape := ⟨2, ![32768, 2048]⟩

abbrev nBuf : Space → Nat
  | .hbm => 51
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x16384x256, .f32⟩
  | .hbm, ⟨2, _⟩ => ⟨S2048, .f32⟩
  | .hbm, ⟨3, _⟩ => ⟨S2048x2048, .f32⟩
  | .hbm, ⟨4, _⟩ => ⟨S256x2048, .f32⟩
  | .hbm, ⟨5, _⟩ => ⟨S2048, .f32⟩
  | .hbm, ⟨6, _⟩ => ⟨S2x16384x2048, .f32⟩
  | .hbm, ⟨7, _⟩ => ⟨S_, .f32⟩
  | .hbm, ⟨8, _⟩ => ⟨S2x16384, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x1, .f32⟩
  | .hbm, ⟨17, _⟩ => ⟨S2x16384x2048, .f32⟩
  | .hbm, ⟨18, _⟩ => ⟨S2x16384x2048, .f32⟩
  | .hbm, ⟨19, _⟩ => ⟨S1x1x2048, .f32⟩
  | .hbm, ⟨20, _⟩ => ⟨S2x16384x2048, .f32⟩
  | .hbm, ⟨21, _⟩ => ⟨S2x16384x2048, .f32⟩
  | .hbm, ⟨22, _⟩ => ⟨S2x16384x2048, .f32⟩
  | .hbm, ⟨23, _⟩ => ⟨S2x16384x2048, .f32⟩
  | .hbm, ⟨24, _⟩ => ⟨S2x16384x2048, .f32⟩
  | .hbm, ⟨25, _⟩ => ⟨S_, .f32⟩
  | .hbm, ⟨26, _⟩ => ⟨S2x16384x2048, .f32⟩
  | .hbm, ⟨27, _⟩ => ⟨S2x16384x2048, .f32⟩
  | .hbm, ⟨28, _⟩ => ⟨S_, .f32⟩
  | .hbm, ⟨29, _⟩ => ⟨S2x16384x2048, .f32⟩
  | .hbm, ⟨30, _⟩ => ⟨S2x16384x2048, .f32⟩
  | .hbm, ⟨31, _⟩ => ⟨S2x16384x2048, .f32⟩
  | .hbm, ⟨32, _⟩ => ⟨S2x16384x2048, .f32⟩
  | .hbm, ⟨33, _⟩ => ⟨S2x16384x2048, .f32⟩
  | .hbm, ⟨34, _⟩ => ⟨S2x16384x2048, .f32⟩
  | .hbm, ⟨35, _⟩ => ⟨S_, .f32⟩
  | .hbm, ⟨36, _⟩ => ⟨S2x16384, .f32⟩
  | .hbm, ⟨37, _⟩ => ⟨S2x16384x1, .f32⟩
  | .hbm, ⟨38, _⟩ => ⟨S_, .f32⟩
  | .hbm, ⟨39, _⟩ => ⟨S2x16384x1, .f32⟩
  | .hbm, ⟨40, _⟩ => ⟨S2x16384x1, .f32⟩
  | .hbm, ⟨41, _⟩ => ⟨S_, .f32⟩
  | .hbm, ⟨42, _⟩ => ⟨S2x16384x1, .f32⟩
  | .hbm, ⟨43, _⟩ => ⟨S2x16384x1, .f32⟩
  | .hbm, ⟨44, _⟩ => ⟨S2x16384x1, .f32⟩
  | .hbm, ⟨45, _⟩ => ⟨S2x16384x2048, .f32⟩
  | .hbm, ⟨46, _⟩ => ⟨S2x16384x2048, .f32⟩
  | .hbm, ⟨47, _⟩ => ⟨S1x1x2048, .f32⟩
  | .hbm, ⟨48, _⟩ => ⟨S2x16384x2048, .f32⟩
  | .hbm, ⟨49, _⟩ => ⟨S2x16384x2048, .f32⟩
  | .hbm, ⟨50, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Kernel4.lean ====
abbrev S2x16384x2048 : Shape := ⟨3, ![2, 16384, 2048]⟩
abbrev S2x16384x1024 : Shape := ⟨3, ![2, 16384, 1024]⟩
abbrev S2048x2048 : Shape := ⟨2, ![2048, 2048]⟩
abbrev S32768x2048 : Shape := ⟨2, ![32768, 2048]⟩
abbrev S32768x1024 : Shape := ⟨2, ![32768, 1024]⟩
abbrev S1024x2048 : Shape := ⟨2, ![1024, 2048]⟩
abbrev S512x2048 : Shape := ⟨2, ![512, 2048]⟩
abbrev S512x1024 : Shape := ⟨2, ![512, 1024]⟩

abbrev nBuf : Space → Nat
  | .hbm => 13
  | .vmem => 10
  | .smem => 0
  | _ => 0

abbrev bufTy : (tb : Table) → Fin (tcTables nBuf tb) → BufTy
  | .hbm, ⟨0, _⟩ => ⟨S2x16384x2048, .f32⟩
  | .hbm, ⟨1, _⟩ => ⟨S2x16384x1024, .f32⟩
  | .hbm, ⟨2, _⟩ => ⟨S2x16384x1024, .f32⟩
  | .hbm, ⟨3, _⟩ => ⟨S2048x2048, .f32⟩
  | .hbm, ⟨4, _⟩ => ⟨S2x16384x1024, .bf16⟩
  | .hbm, ⟨5, _⟩ => ⟨S2x16384x1024, .bf16⟩
  | .hbm, ⟨6, _⟩ => ⟨S2048x2048, .bf16⟩
  | .hbm, ⟨7, _⟩ => ⟨S32768x2048, .f32⟩
  | .hbm, ⟨8, _⟩ => ⟨S32768x1024, .bf16⟩
  | .hbm, ⟨9, _⟩ => ⟨S32768x1024, .bf16⟩
  | .hbm, ⟨10, _⟩ => ⟨S1024x2048, .bf16⟩
  | .hbm, ⟨11, _⟩ => ⟨S1024x2048, .bf16⟩
  | .hbm, ⟨12, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S512x2048, .f32⟩
  | .local _ .vmem, ⟨9, _⟩ => ⟨S512x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S2x16384x2048 : Shape := ⟨3, ![2, 16384, 2048]⟩
abbrev S2x16384x1024 : Shape := ⟨3, ![2, 16384, 1024]⟩
abbrev S2048x2048 : Shape := ⟨2, ![2048, 2048]⟩
abbrev S32768x2048 : Shape := ⟨2, ![32768, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x16384x1024, .f32⟩
  | .hbm, ⟨2, _⟩ => ⟨S2x16384x1024, .f32⟩
  | .hbm, ⟨3, _⟩ => ⟨S2048x2048, .f32⟩
  | .hbm, ⟨4, _⟩ => ⟨S2x16384x2048, .f32⟩
  | .hbm, ⟨5, _⟩ => ⟨S2x16384x2048, .f32⟩
  | .hbm, ⟨6, _⟩ => ⟨S2x16384x2048, .f32⟩
  | .hbm, ⟨7, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.Steps.lean ====
/-
  The attention kernel's body as a short program: the printed body repeats the same few memory operations for sixteen
  key blocks and four heads, and here each is written once, over the block and the head. `Proof/Printed.lean` proves
  the printed body equal to this one.
-/
module

public import proofs.«01_k».proof.Proof.Gen.KernelIdeal.Skeleton

@[expose] public section

noncomputable section

namespace Cert.Attn

open Cert.KernelIdeal Cert.KernelIdeal.Gen
open Idealize.ShloMosaic Idealize.SL.Sem

variable {F : FTy → Type} [FloatOps F]

/-- The memory the body works on: the staged blocks of the queries, keys, values and output, and the scratch: the
    largest key norm, the shifts, the denominators, the numerators, and two buffers of scores. -/
structure Mems where
  q : Memref sig .tc .vmem S1x4x128x512 .bf16
  k : Memref sig .tc .vmem S1x1x16384x128 .bf16
  v : Memref sig .tc .vmem S1x1x128x16384 .bf16
  o : Memref sig .tc .vmem S1x512x512 .bf16
  n : Memref sig .tc .vmem S1x1 .f32
  m : Memref sig .tc .vmem S4x1x512 .f32
  l : Memref sig .tc .vmem S4x1x512 .f32
  a : Memref sig .tc .vmem S4x128x512 .f32
  s : Bool → Memref sig .tc .vmem S4x1024x512 .f32

/-! ## The rectangles the body reads and writes -/

theorem qRect_inb (g : Fin 4) : ∀ a, (![0, g.val, 0, 0] : Fin 4 → Nat) a + S1x1x128x512.size a ≤ S1x4x128x512.size a := by
  intro a; have := g.isLt; fin_cases a <;> simp [S1x1x128x512, S1x4x128x512] <;> omega
theorem kRect_inb (j : Fin 16) : ∀ a, (![0, 0, 1024 * j.val, 0] : Fin 4 → Nat) a + S1x1x1024x128.size a ≤ S1x1x16384x128.size a := by
  intro a; have := j.isLt; fin_cases a <;> simp [S1x1x1024x128, S1x1x16384x128] <;> omega
theorem vRect_inb (j : Fin 16) : ∀ a, (![0, 0, 0, 1024 * j.val] : Fin 4 → Nat) a + S1x1x128x1024.size a ≤ S1x1x128x16384.size a := by
  intro a; have := j.isLt; fin_cases a <;> simp [S1x1x128x1024, S1x1x128x16384] <;> omega
theorem rowRect_inb (g : Fin 4) : ∀ a, (![g.val, 0, 0] : Fin 3 → Nat) a + S1x1x512.size a ≤ S4x1x512.size a := by
  intro a; have := g.isLt; fin_cases a <;> simp [S1x1x512, S4x1x512] <;> omega
theorem accRect_inb (g : Fin 4) : ∀ a, (![g.val, 0, 0] : Fin 3 → Nat) a + S1x128x512.size a ≤ S4x128x512.size a := by
  intro a; have := g.isLt; fin_cases a <;> simp [S1x128x512, S4x128x512] <;> omega
theorem scoreRect_inb (g : Fin 4) : ∀ a, (![g.val, 0, 0] : Fin 3 → Nat) a + S1x1024x512.size a ≤ S4x1024x512.size a := by
  intro a; have := g.isLt; fin_cases a <;> simp [S1x1024x512, S4x1024x512] <;> omega
theorem outRect_inb (g : Fin 4) : ∀ a, (![0, 0, 128 * g.val] : Fin 3 → Nat) a + S1x512x128.size a ≤ S1x512x512.size a := by
  intro a; have := g.isLt; fin_cases a <;> simp [S1x512x128, S1x512x512] <;> omega

/-- The queries of head `g`. -/
abbrev qRect (g : Fin 4) : Rect S1x4x128x512 := Rect.unit ![0, g.val, 0, 0] S1x1x128x512.size (qRect_inb g)
/-- Key block `j`. -/
abbrev kRect (j : Fin 16) : Rect S1x1x16384x128 := Rect.unit ![0, 0, 1024 * j.val, 0] S1x1x1024x128.size (kRect_inb j)
/-- Value block `j`. -/
abbrev vRect (j : Fin 16) : Rect S1x1x128x16384 := Rect.unit ![0, 0, 0, 1024 * j.val] S1x1x128x1024.size (vRect_inb j)
/-- Head `g`'s row of the shifts and of the denominators. -/
abbrev rowRect (g : Fin 4) : Rect S4x1x512 := Rect.unit ![g.val, 0, 0] S1x1x512.size (rowRect_inb g)
/-- Head `g`'s numerators. -/
abbrev accRect (g : Fin 4) : Rect S4x128x512 := Rect.unit ![g.val, 0, 0] S1x128x512.size (accRect_inb g)
/-- Head `g`'s scores. -/
abbrev scoreRect (g : Fin 4) : Rect S4x1024x512 := Rect.unit ![g.val, 0, 0] S1x1024x512.size (scoreRect_inb g)
/-- Head `g`'s columns of the output block. -/
abbrev outRect (g : Fin 4) : Rect S1x512x512 := Rect.unit ![0, 0, 128 * g.val] S1x512x128.size (outRect_inb g)

/-- The rows of the output block's columns are whole words. -/
theorem outPacked (g : Fin 4) : (outRect g).PackedRows (EltTy.packing .bf16) := by fin_cases g <;> decide

theorem trips1 : k0_t1_loop.trips = 16 := by decide
theorem trips2 : k0_t2_loop.trips = 16 := by decide

/-! ## What the body computes between reads and writes -/

/-- The program's type, by the value it returns. -/
abbrev Code (F : FTy → Type) [FloatOps F] (α : Type) := Prog (TpuEff nD τ sig (Elt F) Λ₀ .tc) α

/-- A program run where a condition holds. -/
def whenever (c : Prop) [Decidable c] (A : c → Code F PUnit) : Code F PUnit := if h : c then A h else pure ⟨⟩

/-! ## The steps -/

variable (M : Mems)

/-- One head's scores against a key block, into score buffer `b`. -/
def scoreHead (kb : Vec F S1x1x1024x128 .bf16) (b : Bool) (g : Fin 4) : Code F PUnit := do
  let q : Vec F S1x1x128x512 .bf16 ← Prog.lift (.load M.q (qRect g).toLoadRect (View.loadsAt_vmem h_S1x1x128x512))
  let _ : Vec F S1x1024x512 .f32 ← Prog.lift (.load (M.s b) (scoreRect g).toLoadRect (View.loadsAt_vmem h_S1x1024x512))
  Prog.lift (.store (M.s b) (scoreRect g) (k0_pay5 kb q) Finset.univ (View.stores_vmem_bits_univ h_S1x1024x512 rfl) (.inl rfl))

/-- The four heads' scores against key block `j`, into score buffer `b`. -/
def scores (j : Fin 16) (b : Bool) : Code F PUnit := do
  let kb : Vec F S1x1x1024x128 .bf16 ← Prog.lift (.load M.k (kRect j).toLoadRect (View.loadsAt_vmem h_S1x1x1024x128))
  scoreHead M kb b 0
  scoreHead M kb b 1
  scoreHead M kb b 2
  scoreHead M kb b 3

/-- One head's step of the sums under a fixed shift: the block's weights added to the denominators, the weighted values
    to the numerators. -/
def addHead (vb : Vec F S1x1x128x1024 .bf16) (b : Bool) (g : Fin 4) : Code F PUnit := do
  let s : Vec F S1x1024x512 .f32 ← Prog.lift (.load (M.s b) (scoreRect g).toLoadRect (View.loadsAt_vmem h_S1x1024x512))
  let m : Vec F S1x1x512 .f32 ← Prog.lift (.load M.m (rowRect g).toLoadRect (View.loadsAt_vmem h_S1x1x512))
  let l : Vec F S1x1x512 .f32 ← Prog.lift (.load M.l (rowRect g).toLoadRect (View.loadsAt_vmem h_S1x1x512))
  let _ : Vec F S1x1x512 .f32 ← Prog.lift (.load M.l (rowRect g).toLoadRect (View.loadsAt_vmem h_S1x1x512))
  Prog.lift (.store M.l (rowRect g) (k0_pay18 s m l) Finset.univ (View.stores_vmem_bits_univ h_S1x1x512 rfl) (.inl rfl))
  let a : Vec F S1x128x512 .f32 ← Prog.lift (.load M.a (accRect g).toLoadRect (View.loadsAt_vmem h_S1x128x512))
  let _ : Vec F S1x128x512 .f32 ← Prog.lift (.load M.a (accRect g).toLoadRect (View.loadsAt_vmem h_S1x128x512))
  Prog.lift (.store M.a (accRect g) (k0_pay19 (k0_pay16 vb) (k0_pay17 s m) a) Finset.univ (View.stores_vmem_bits_univ h_S1x128x512 rfl) (.inl rfl))

/-- The four heads' step of the sums at block `j`, from score buffer `b`. -/
def addBlock (j : Fin 16) (b : Bool) : Code F PUnit := do
  let vb : Vec F S1x1x128x1024 .bf16 ← Prog.lift (.load M.v (vRect j).toLoadRect (View.loadsAt_vmem h_S1x1x128x1024))
  addHead M vb b 0
  addHead M vb b 1
  addHead M vb b 2
  addHead M vb b 3

/-- The next block's scores, then this block's sums: block `j + 1` into the other buffer, block `j` from `b`. -/
def pair (j j' : Fin 16) (b : Bool) : Code F PUnit := do
  scores M j' (!b)
  addBlock M j b

/-- The sums under a fixed shift, over the sixteen blocks. -/
def fixedShift : Code F PUnit := do
  scores M 0 false
  pair M 0 1 false
  pair M 1 2 true
  pair M 2 3 false
  pair M 3 4 true
  pair M 4 5 false
  pair M 5 6 true
  pair M 6 7 false
  pair M 7 8 true
  pair M 8 9 false
  pair M 9 10 true
  pair M 10 11 false
  pair M 11 12 true
  pair M 12 13 false
  pair M 13 14 true
  pair M 14 15 false
  addBlock M 15 true

/-- One head's step of the running-maximum form. -/
def onlineHead (kb : Vec F S1x1x1024x128 .bf16) (vb : Vec F S1x1x128x1024 .bf16) (g : Fin 4) : Code F PUnit := do
  let q : Vec F S1x1x128x512 .bf16 ← Prog.lift (.load M.q (qRect g).toLoadRect (View.loadsAt_vmem h_S1x1x128x512))
  let m : Vec F S1x1x512 .f32 ← Prog.lift (.load M.m (rowRect g).toLoadRect (View.loadsAt_vmem h_S1x1x512))
  let l : Vec F S1x1x512 .f32 ← Prog.lift (.load M.l (rowRect g).toLoadRect (View.loadsAt_vmem h_S1x1x512))
  let _ : Vec F S1x1x512 .f32 ← Prog.lift (.load M.l (rowRect g).toLoadRect (View.loadsAt_vmem h_S1x1x512))
  Prog.lift (.store M.l (rowRect g) (k0_pay345 kb q m l) Finset.univ (View.stores_vmem_bits_univ h_S1x1x512 rfl) (.inl rfl))
  let a : Vec F S1x128x512 .f32 ← Prog.lift (.load M.a (accRect g).toLoadRect (View.loadsAt_vmem h_S1x128x512))
  let _ : Vec F S1x128x512 .f32 ← Prog.lift (.load M.a (accRect g).toLoadRect (View.loadsAt_vmem h_S1x128x512))
  Prog.lift (.store M.a (accRect g) (k0_pay346 (k0_pay339 vb) (k0_pay343 kb q m) (k0_pay344 kb q m) a) Finset.univ (View.stores_vmem_bits_univ h_S1x128x512 rfl) (.inl rfl))
  let _ : Vec F S1x1x512 .f32 ← Prog.lift (.load M.m (rowRect g).toLoadRect (View.loadsAt_vmem h_S1x1x512))
  Prog.lift (.store M.m (rowRect g) (k0_pay347 (k0_pay342 kb q m)) Finset.univ (View.stores_vmem_bits_univ h_S1x1x512 rfl) (.inl rfl))

/-- The four heads' step of the running-maximum form, at the key and value block at the offsets given. -/
def onlineBlock (ko : Fin 4 → Nat) (hk : ∀ a, ko a + S1x1x1024x128.size a ≤ S1x1x16384x128.size a)
    (vo : Fin 4 → Nat) (hv : ∀ a, vo a + S1x1x128x1024.size a ≤ S1x1x128x16384.size a) : Code F PUnit := do
  let kb : Vec F S1x1x1024x128 .bf16 ← Prog.lift (.load M.k (Rect.unit (s := S1x1x16384x128) ko S1x1x1024x128.size hk).toLoadRect (View.loadsAt_vmem h_S1x1x1024x128))
  let vb : Vec F S1x1x128x1024 .bf16 ← Prog.lift (.load M.v (Rect.unit (s := S1x1x128x16384) vo S1x1x128x1024.size hv).toLoadRect (View.loadsAt_vmem h_S1x1x128x1024))
  onlineHead M kb vb 0
  onlineHead M kb vb 1
  onlineHead M kb vb 2
  onlineHead M kb vb 3

/-- One head's shift: the square root of the query's norm times the largest key norm. -/
def shiftHead (g : Fin 4) : Code F PUnit := do
  let q : Vec F S1x1x128x512 .bf16 ← Prog.lift (.load M.q (qRect g).toLoadRect (View.loadsAt_vmem h_S1x1x128x512))
  let n : Vec F S1x1 .f32 ← Prog.lift (.load M.n (Rect.unit (s := S1x1) ![0, 0] S1x1.size inb_S1x1_S1x1_0_0).toLoadRect (View.loadsAt_vmem h_S1x1))
  let _ : Vec F S1x1x512 .f32 ← Prog.lift (.load M.m (rowRect g).toLoadRect (View.loadsAt_vmem h_S1x1x512))
  Prog.lift (.store M.m (rowRect g) (k0_pay375 q n) Finset.univ (View.stores_vmem_bits_univ h_S1x1x512 rfl) (.inl rfl))

/-- One head's output columns: numerators over denominators, transposed. -/
def outHead (ho : M.o.IsWhole) (g : Fin 4) : Code F PUnit := do
  let a : Vec F S1x128x512 .f32 ← Prog.lift (.load M.a (accRect g).toLoadRect (View.loadsAt_vmem h_S1x128x512))
  let l : Vec F S1x1x512 .f32 ← Prog.lift (.load M.l (rowRect g).toLoadRect (View.loadsAt_vmem h_S1x1x512))
  let _ : Vec F S1x512x128 .bf16 ← Prog.lift (.load M.o (outRect g).toLoadRect (View.loadsAt_vmem h_S1x512x128))
  Prog.lift (.store M.o (outRect g) (k0_pay389 a l) Finset.univ (View.stores_vmem h_S1x512x128 (ho.storeExact_slice rfl _ (outPacked g)) (fun _ => rfl)) (.inl rfl))

/-- The largest key norm over the sixteen key blocks, kept row by row of the block. -/
def keyNorms (i : grid0.Coords) (h : k0_cond1 i = 1#1) : Code F (FVec F S1024x1 .f32) :=
  Scf.Loop.for k0_t1_loop (k0_t1_ok i h) (k0_pay372 (F := F)) fun j best => do
    let kb : Vec F S1x1x1024x128 .bf16 ← Prog.lift (.load M.k (Rect.unit (s := S1x1x16384x128) (k0_off1 j) S1x1x1024x128.size (k0_off1_inb i j h)).toLoadRect (View.loadsAt_vmem h_S1x1x1024x128))
    pure (k0_pay373 best kb)

/-- The largest key norm kept for the query blocks that follow, from the row-by-row ones. -/
def storeNorm (best : FVec F S1024x1 .f32) : Code F PUnit := do
  let _ : Vec F S1x1 .f32 ← Prog.lift (.load M.n (Rect.unit (s := S1x1) ![0, 0] S1x1.size inb_S1x1_S1x1_0_0).toLoadRect (View.loadsAt_vmem h_S1x1))
  Prog.lift (.store M.n (Rect.unit (s := S1x1) ![0, 0] S1x1.size inb_S1x1_S1x1_0_0) (k0_pay374 best) Finset.univ (View.stores_vmem_bits_univ h_S1x1 rfl) (.inl rfl))

/-- The largest key norm, kept for the query blocks that follow. -/
def keepNorm (i : grid0.Coords) (h : k0_cond1 i = 1#1) : Code F PUnit := keyNorms M i h >>= storeNorm M

/-- The running-maximum form, over the sixteen blocks. -/
def online : Code F PUnit := do
  let _ : Vec F S4x1x512 .f32 ← Prog.lift (.load M.m (Rect.unit (s := S4x1x512) ![0, 0, 0] S4x1x512.size inb_S4x1x512_S4x1x512_0_0_0).toLoadRect (View.loadsAt_vmem h_S4x1x512))
  Prog.lift (.store M.m (Rect.unit (s := S4x1x512) ![0, 0, 0] S4x1x512.size inb_S4x1x512_S4x1x512_0_0_0) (k0_pay385 (F := F)) Finset.univ (View.stores_vmem_bits_univ h_S4x1x512 rfl) (.inl rfl))
  Scf.Loop.for k0_t2_loop k0_t2_ok ⟨⟩ fun j _ =>
    onlineBlock M (k0_off2 j) (k0_off2_inb j) (k0_off3 j) (k0_off3_inb j)

/-- Whether the fixed shift is safe at these shifts: the largest at most sixty. -/
abbrev safe (m : Vec F S4x1x512 .f32) : BitVec 1 := Scalar.cmpf .ole (k0_pay382 m) (Scalar.ofBits .f32 0x42700000#32)

/-- The sums, by the fixed shift where it is safe and by the running maximum elsewhere. -/
def sums (m : Vec F S4x1x512 .f32) : Code F PUnit := do
  whenever (Scalar.cmpi .ne (Scalar.extui (safe m)) 0#32 = 1#1) fun _ => fixedShift M
  whenever (Scalar.cmpi .ne (Scalar.extui (Scalar.xori (safe m) 1#1)) 0#32 = 1#1) fun _ => online M

/-- The key norm, at the first query block of a head group, and the first two heads' shifts. -/
def start (i : grid0.Coords) : Code F PUnit := do
  whenever (k0_cond1 i = 1#1) (keepNorm M i)
  shiftHead M 0
  shiftHead M 1

/-- The sums from zero numerators on, and the output. -/
def finish (ho : M.o.IsWhole) : Code F PUnit := do
  Prog.lift (.store M.a (Rect.unit (s := S4x128x512) ![0, 0, 0] S4x128x512.size inb_S4x128x512_S4x128x512_0_0_0) (k0_pay381 (k0_pay380 (F := F))) Finset.univ (View.stores_vmem_bits_univ h_S4x128x512 rfl) (.inl rfl))
  let m : Vec F S4x1x512 .f32 ← Prog.lift (.load M.m (Rect.unit (s := S4x1x512) ![0, 0, 0] S4x1x512.size inb_S4x1x512_S4x1x512_0_0_0).toLoadRect (View.loadsAt_vmem h_S4x1x512))
  sums M m
  outHead M ho 0
  outHead M ho 1
  outHead M ho 2
  outHead M ho 3

/-- The body at grid point `i`. -/
def body (i : grid0.Coords) (ho : M.o.IsWhole) : Code F PUnit := do
  start M i
  shiftHead M 2
  shiftHead M 3
  let _ : Vec F S4x1x512 .f32 ← Prog.lift (.load M.l (Rect.unit (s := S4x1x512) ![0, 0, 0] S4x1x512.size inb_S4x1x512_S4x1x512_0_0_0).toLoadRect (View.loadsAt_vmem h_S4x1x512))
  Prog.lift (.store M.l (Rect.unit (s := S4x1x512) ![0, 0, 0] S4x1x512.size inb_S4x1x512_S4x1x512_0_0_0) (k0_pay379 (F := F)) Finset.univ (View.stores_vmem_bits_univ h_S4x1x512 rfl) (.inl rfl))
  let _ : Vec F S4x128x512 .f32 ← Prog.lift (.load M.a (Rect.unit (s := S4x128x512) ![0, 0, 0] S4x128x512.size inb_S4x128x512_S4x128x512_0_0_0).toLoadRect (View.loadsAt_vmem h_S4x128x512))
  finish M ho

end Cert.Attn

end
-- ==== Proof.Held.lean ====
/-
  The memory the attention body works on, as a state of ten contents, and what it is for a program to run from one
  state to another. The four heads' stacked buffers are states per head (`pack`, `part`).
-/
module

public import proofs.«01_k».proof.Proof.Steps
public import proofs.«01_k».proof.Proof.Gen.KernelIdeal.Frame

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## A buffer of four parts -/

/-- A shape's indices as four parts of another shape: each index has a part and a place in it. -/
structure Parts (s p : Shape) where
  put : Fin 4 → p.Idx → s.Idx
  hd : s.Idx → Fin 4
  tl : s.Idx → p.Idx
  hd_put : ∀ g y, hd (put g y) = g
  tl_put : ∀ g y, tl (put g y) = y
  put_hd_tl : ∀ x, put (hd x) (tl x) = x

variable {s p : Shape} {α : Type}

/-- Four parts as one buffer. -/
def Parts.pack (D : Parts s p) (A : Fin 4 → p.Idx → α) : s.Idx → α := fun x => A (D.hd x) (D.tl x)
/-- A buffer's four parts. -/
def Parts.part (D : Parts s p) (X : s.Idx → α) : Fin 4 → p.Idx → α := fun g y => X (D.put g y)

theorem Parts.part_pack (D : Parts s p) (A : Fin 4 → p.Idx → α) : D.part (D.pack A) = A := by
  funext g y; simp only [Parts.part, Parts.pack, D.hd_put, D.tl_put]
theorem Parts.pack_part (D : Parts s p) (X : s.Idx → α) : D.pack (D.part X) = X := by
  funext x; simp only [Parts.part, Parts.pack, D.put_hd_tl]

/-- Four stacked pieces. -/
def stack (b c : Nat) : Parts ⟨3, ![4, b, c]⟩ ⟨3, ![1, b, c]⟩ where
  put g y := fun a => match a with
    | 0 => (g : Fin 4)
    | 1 => y 1
    | 2 => y 2
  hd x := x 0
  tl x := fun a => match a with
    | 0 => (0 : Fin 1)
    | 1 => x 1
    | 2 => x 2
  hd_put _ _ := rfl
  tl_put _ y := by
    funext a
    match a with
    | 0 => exact Subsingleton.elim (α := Fin 1) _ _
    | 1 => rfl
    | 2 => rfl
  put_hd_tl x := by
    funext a
    match a with
    | 0 => rfl
    | 1 => rfl
    | 2 => rfl

/-- The four heads' rows of the shifts and of the denominators. -/
abbrev rows : Parts S4x1x512 S1x1x512 := stack 1 512
/-- The four heads' numerators. -/
abbrev accs : Parts S4x128x512 S1x128x512 := stack 128 512
/-- The four heads' scores. -/
abbrev scos : Parts S4x1024x512 S1x1024x512 := stack 1024 512

/-- The four heads' output columns. -/
def outs : Parts S1x512x512 S1x512x128 where
  put g y := fun a => match a with
    | 0 => y 0
    | 1 => y 1
    | 2 => (⟨128 * g.val + (y 2).val, by have h : (y 2).val < 128 := (y 2).isLt; have := g.isLt; omega⟩ : Fin 512)
  hd x := ⟨(x 2).val / 128, by have h : (x 2).val < 512 := (x 2).isLt; omega⟩
  tl x := fun a => match a with
    | 0 => x 0
    | 1 => x 1
    | 2 => (⟨(x 2).val % 128, Nat.mod_lt _ (by decide)⟩ : Fin 128)
  hd_put g y := by
    apply Fin.ext; have h : (y 2).val < 128 := (y 2).isLt
    show (128 * g.val + (y 2).val) / 128 = g.val; omega
  tl_put g y := by
    funext a
    have h : (y 2).val < 128 := (y 2).isLt
    match a with
    | 0 => rfl
    | 1 => rfl
    | 2 => exact Fin.ext (show (128 * g.val + (y 2).val) % 128 = (y 2).val by omega)
  put_hd_tl x := by
    funext a
    match a with
    | 0 => rfl
    | 1 => rfl
    | 2 => exact Fin.ext (show 128 * ((x 2).val / 128) + (x 2).val % 128 = (x 2).val by omega)

theorem emb_row (g : Fin 4) (y : S1x1x512.Idx) : (rowRect g).emb y = rows.put g y := by
  funext a; have h : (y 0).val < 1 := (y 0).isLt
  match a with
  | 0 => exact Fin.ext (show g.val + 1 * (y 0).val = g.val by omega)
  | 1 => exact Fin.ext (show 0 + 1 * (y 1).val = (y 1).val by omega)
  | 2 => exact Fin.ext (show 0 + 1 * (y 2).val = (y 2).val by omega)
theorem emb_acc (g : Fin 4) (y : S1x128x512.Idx) : (accRect g).emb y = accs.put g y := by
  funext a; have h : (y 0).val < 1 := (y 0).isLt
  match a with
  | 0 => exact Fin.ext (show g.val + 1 * (y 0).val = g.val by omega)
  | 1 => exact Fin.ext (show 0 + 1 * (y 1).val = (y 1).val by omega)
  | 2 => exact Fin.ext (show 0 + 1 * (y 2).val = (y 2).val by omega)
theorem emb_score (g : Fin 4) (y : S1x1024x512.Idx) : (scoreRect g).emb y = scos.put g y := by
  funext a; have h : (y 0).val < 1 := (y 0).isLt
  match a with
  | 0 => exact Fin.ext (show g.val + 1 * (y 0).val = g.val by omega)
  | 1 => exact Fin.ext (show 0 + 1 * (y 1).val = (y 1).val by omega)
  | 2 => exact Fin.ext (show 0 + 1 * (y 2).val = (y 2).val by omega)
theorem emb_out (g : Fin 4) (y : S1x512x128.Idx) : (outRect g).emb y = outs.put g y := by
  funext a
  match a with
  | 0 => exact Fin.ext (show 0 + 1 * (y 0).val = (y 0).val by omega)
  | 1 => exact Fin.ext (show 0 + 1 * (y 1).val = (y 1).val by omega)
  | 2 => exact Fin.ext (show 128 * g.val + 1 * (y 2).val = 128 * g.val + (y 2).val by omega)

/-- Writing a part replaces it. -/
theorem Parts.overlay_eq (r : Rect s) (D : Parts s r.shape) (g : Fin 4) (hr : ∀ y, r.emb y = D.put g y)
    (A : Fin 4 → r.shape.Idx → α) (w : r.shape.Idx → α) :
    r.overlay (D.pack A) w = D.pack (Function.update A g w) := by
  funext x
  by_cases h : D.hd x = g
  · have hx : x = r.emb (D.tl x) := by rw [hr, ← h]; exact (D.put_hd_tl x).symm
    rw [show r.overlay (D.pack A) w x = r.overlay (D.pack A) w (r.emb (D.tl x)) from congrArg _ hx, Rect.overlay_emb]
    simp only [Parts.pack, h, Function.update_self]
  · rw [Rect.overlay_of_not_mem]
    · simp only [Parts.pack, Function.update_of_ne h]
    · intro hm
      obtain ⟨y, rfl⟩ := r.toLoadRect.exists_idx_of_mem hm
      exact h ((congrArg D.hd (hr y)).trans (D.hd_put g _))

/-- Reading a part. -/
theorem Parts.ld_eq (r : Rect s) (D : Parts s r.shape) (g : Fin 4) (hr : ∀ y, r.emb y = D.put g y)
    (A : Fin 4 → r.shape.Idx → α) (y : r.shape.Idx) : D.pack A (r.emb y) = A g y := by
  rw [hr]; simp only [Parts.pack, D.hd_put, D.tl_put]

/-- Reading and writing a whole buffer. -/
theorem emb_whole (off : Fin s.rank → Nat) (inb : ∀ a, off a + s.size a ≤ s.size a) (y : s.Idx) :
    (Rect.unit (s := s) off s.size inb).emb y = y := by
  funext a; apply Fin.ext
  show off a + 1 * (y a).val = (y a).val
  have := inb a; omega
theorem overlay_whole (off : Fin s.rank → Nat) (inb : ∀ a, off a + s.size a ≤ s.size a) (X w : s.Idx → α) :
    (Rect.unit (s := s) off s.size inb).overlay X w = w := by
  funext x
  have := Rect.overlay_emb (Rect.unit (s := s) off s.size inb) X w x
  rwa [emb_whole] at this

/-! ## The state -/

/-- The contents of the body's memory, the stacked buffers head by head. -/
structure St (F : FTy → Type) [FloatOps F] where
  q : Vec F S1x4x128x512 .bf16
  k : Vec F S1x1x16384x128 .bf16
  v : Vec F S1x1x128x16384 .bf16
  o : Fin 4 → Vec F S1x512x128 .bf16
  n : Vec F S1x1 .f32
  m : Fin 4 → Vec F S1x1x512 .f32
  l : Fin 4 → Vec F S1x1x512 .f32
  a : Fin 4 → Vec F S1x128x512 .f32
  s : Bool → Fin 4 → Vec F S1x1024x512 .f32

variable (c : Dev nD) (M : Mems)

/-- The memory held at a state. -/
def held (st : St F) : sProp 𝕄 := iprop(
  owns (c : Thread nD τ) M.q fullShare st.q ∗ owns (c : Thread nD τ) M.k fullShare st.k
  ∗ owns (c : Thread nD τ) M.v fullShare st.v ∗ owns (c : Thread nD τ) M.o fullShare (outs.pack st.o)
  ∗ owns (c : Thread nD τ) M.n fullShare st.n ∗ owns (c : Thread nD τ) M.m fullShare (rows.pack st.m)
  ∗ owns (c : Thread nD τ) M.l fullShare (rows.pack st.l) ∗ owns (c : Thread nD τ) M.a fullShare (accs.pack st.a)
  ∗ owns (c : Thread nD τ) (M.s false) fullShare (scos.pack (st.s false))
  ∗ owns (c : Thread nD τ) (M.s true) fullShare (scos.pack (st.s true)))

/-- From state `st` the program returns `a` in state `st'`. -/
def Runs {α : Type} (P : Code F α) (st : St F) (a : α) (st' : St F) : Prop :=
  ∀ (E : Set ℕ) (Q : α → sProp 𝕄),
    iprop(held c M st ∗ (held c M st' -∗ Q a)) ⊢ wp frame (wpE (defs₀ (F := F)) Variants.none (c : Thread nD τ) none) E P Q

variable {c M}

theorem Runs.pure {α : Type} (a : α) (st : St F) : Runs c M (pure a : Code F α) st a st := by
  intro E Q
  iintro ⟨H, HQ⟩
  iapply le_wp_ret
  iapply HQ; iexact H

theorem Runs.bind {α β : Type} {P : Code F α} {k : α → Code F β} {st st' st'' : St F} {a : α} {b : β}
    (h : Runs c M P st a st') (h' : Runs c M (k a) st' b st'') : Runs c M (P >>= k) st b st'' := by
  intro E Q
  rw [wp_bind]
  iintro ⟨H, HQ⟩
  iapply (h E _)
  isplitl [H]; · iexact H
  iintro H
  iapply (h' E _)
  isplitl [H]; · iexact H
  iexact HQ

/-- One program per head, in turn. -/
theorem Runs.four {f : Fin 4 → Code F PUnit} {T : Fin 4 → St F → St F} (h : ∀ g st, Runs c M (f g) st ⟨⟩ (T g st)) (st : St F) :
    Runs c M (do f 0; f 1; f 2; f 3) st ⟨⟩ (T 3 (T 2 (T 1 (T 0 st)))) :=
  (h 0 _).bind ((h 1 _).bind ((h 2 _).bind (h 3 _)))

/-- One of the body's buffers within the state: held, and put back at whatever it then holds. -/
def Focus {sh : Shape} {e : EltTy} (c : Dev nD) (M : Mems) (b : Memref sig .tc .vmem sh e) (st : St F) (X : Vec F sh e) (set : Vec F sh e → St F) : Prop :=
  held c M st ⊢ iprop(owns (c : Thread nD τ) b fullShare X ∗ (∀ Y, owns (c : Thread nD τ) b fullShare Y -∗ held c M (set Y)))

theorem Runs.load {sh : Shape} {e : EltTy} {b : Memref sig .tc .vmem sh e} {st : St F} {X : Vec F sh e} {set : Vec F sh e → St F}
    (hf : Focus c M b st X set) (hset : set X = st) (r : Rect sh) (hl : b.view.LoadsAt r.toLoadRect)
    (w : Vec F r.shape e) (hw : ∀ y, X (r.emb y) = w y) :
    Runs c M (Prog.lift (.load b r.toLoadRect hl)) st w st := by
  obtain rfl : (fun y => X (r.emb y)) = w := funext hw
  intro E Q
  refine (sep_mono hf .rfl).trans ?_
  unfold owns
  iintro ⟨⟨⟨%f, %hX, Hb⟩, Hback⟩, HQ⟩
  iapply (wp_load Variants.none (c : Thread nD τ) none E (k := Prog.ret) (S := b.view.set) (View.setOn_subset_set _ _)) $$ Hb
  iintro Hb
  iapply le_wp_ret
  rw [show (fun y => X (r.emb y)) = b.view.readAt (Elt F) r.toLoadRect f from by subst hX; rfl]
  subst hX
  iapply HQ
  rw [show held c M st = held c M (set (b.view.read (Elt F) f)) from by rw [hset]]
  iapply Hback
  iexists f
  isplitr; · ipureintro; rfl
  iexact Hb

theorem Runs.store {sh : Shape} {e : EltTy} {b : Memref sig .tc .vmem sh e} {st : St F} {X : Vec F sh e} {set : Vec F sh e → St F}
    (hf : Focus c M b st X set) (r : Rect sh) (w : Vec F r.shape e) (hx : (b.access r).Stores Finset.univ) (hm)
    (st' : St F) (hst : set (r.overlay X w) = st') :
    Runs c M (Prog.lift (.store b r w Finset.univ hx hm)) st ⟨⟩ st' := by
  subst hst
  intro E Q
  refine (sep_mono hf .rfl).trans ?_
  unfold owns
  iintro ⟨⟨⟨%f, %hX, Hb⟩, Hback⟩, HQ⟩
  have hw := wp_store (defs := defs₀ (F := F)) (Γ := .empty) (Q := Q) Variants.none (c : Thread nD τ) none E (m := b) (r := r) (w := w) (Mk := Finset.univ) (hx := hx) (hm := hm)
    (k := Prog.ret) (S := b.view.set) (f := f) (View.set_slice_subset _ _)
  iapply (show (b.view.loc (c : Thread nD τ) ↦[b.view.set]{fullShare} f) ⊢ _ from hw) $$ Hb
  iintro Hb
  iapply le_wp_ret
  subst hX
  iapply HQ
  iapply Hback
  iexists ((b.access r).write (Elt F) f w Finset.univ)
  isplitr
  · ipureintro
    funext x
    by_cases hx : x ∈ r.set
    · obtain ⟨y, rfl⟩ := r.toLoadRect.exists_idx_of_mem hx
      exact (View.read_slice_write_emb r f w (Finset.mem_univ y)).trans (Rect.overlay_emb r _ w y).symm
    · rw [Rect.overlay_of_not_mem r _ w hx]
      exact View.read_slice_write_of_not_mem r f w Finset.univ (by rwa [Rect.map_emb_univ])
  iexact Hb

/-! ## Each buffer within the state -/

theorem focus_q (st : St F) : Focus c M M.q st st.q (fun Y => { st with q := Y }) := by
  unfold Focus held
  iintro ⟨H0, H1, H2, H3, H4, H5, H6, H7, H8, H9⟩
  isplitl [H0]; · iexact H0
  iintro %Y H0
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem focus_k (st : St F) : Focus c M M.k st st.k (fun Y => { st with k := Y }) := by
  unfold Focus held
  iintro ⟨H0, H1, H2, H3, H4, H5, H6, H7, H8, H9⟩
  isplitl [H1]; · iexact H1
  iintro %Y H1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem focus_v (st : St F) : Focus c M M.v st st.v (fun Y => { st with v := Y }) := by
  unfold Focus held
  iintro ⟨H0, H1, H2, H3, H4, H5, H6, H7, H8, H9⟩
  isplitl [H2]; · iexact H2
  iintro %Y H2
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem focus_o (st : St F) : Focus c M M.o st (outs.pack st.o) (fun Y => { st with o := outs.part Y }) := by
  unfold Focus held
  iintro ⟨H0, H1, H2, H3, H4, H5, H6, H7, H8, H9⟩
  isplitl [H3]; · iexact H3
  iintro %Y H3
  rw [Parts.pack_part]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem focus_n (st : St F) : Focus c M M.n st st.n (fun Y => { st with n := Y }) := by
  unfold Focus held
  iintro ⟨H0, H1, H2, H3, H4, H5, H6, H7, H8, H9⟩
  isplitl [H4]; · iexact H4
  iintro %Y H4
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem focus_m (st : St F) : Focus c M M.m st (rows.pack st.m) (fun Y => { st with m := rows.part Y }) := by
  unfold Focus held
  iintro ⟨H0, H1, H2, H3, H4, H5, H6, H7, H8, H9⟩
  isplitl [H5]; · iexact H5
  iintro %Y H5
  rw [Parts.pack_part]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem focus_l (st : St F) : Focus c M M.l st (rows.pack st.l) (fun Y => { st with l := rows.part Y }) := by
  unfold Focus held
  iintro ⟨H0, H1, H2, H3, H4, H5, H6, H7, H8, H9⟩
  isplitl [H6]; · iexact H6
  iintro %Y H6
  rw [Parts.pack_part]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem focus_a (st : St F) : Focus c M M.a st (accs.pack st.a) (fun Y => { st with a := accs.part Y }) := by
  unfold Focus held
  iintro ⟨H0, H1, H2, H3, H4, H5, H6, H7, H8, H9⟩
  isplitl [H7]; · iexact H7
  iintro %Y H7
  rw [Parts.pack_part]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem focus_s0 (st : St F) : Focus c M (M.s false) st (scos.pack (st.s false)) (fun Y => { st with s := Function.update st.s false (scos.part Y) }) := by
  unfold Focus held
  iintro ⟨H0, H1, H2, H3, H4, H5, H6, H7, H8, H9⟩
  isplitl [H8]; · iexact H8
  iintro %Y H8
  simp only [Function.update_self, Function.update_of_ne (show true ≠ false from by decide), Parts.pack_part]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem focus_s1 (st : St F) : Focus c M (M.s true) st (scos.pack (st.s true)) (fun Y => { st with s := Function.update st.s true (scos.part Y) }) := by
  unfold Focus held
  iintro ⟨H0, H1, H2, H3, H4, H5, H6, H7, H8, H9⟩
  isplitl [H9]; · iexact H9
  iintro %Y H9
  simp only [Function.update_self, Function.update_of_ne (show false ≠ true from by decide), Parts.pack_part]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem focus_s (st : St F) (b : Bool) :
    Focus c M (M.s b) st (scos.pack (st.s b)) (fun Y => { st with s := Function.update st.s b (scos.part Y) }) := by
  cases b
  · exact focus_s0 st
  · exact focus_s1 st

/-- A counted loop, by its carried value and its state before each trip. -/
theorem Runs.loop {σ : Type} (L : Scf.Loop 32) (hok) (body : Fin L.trips → σ → Code F σ) (f : Nat → σ) (st : Nat → St F)
    {n : Nat} (hn : L.trips = n)
    (hbody : ∀ j : Fin L.trips, Runs c M (body j (f j)) (st j) (f (j + 1)) (st (j + 1))) :
    Runs c M (Scf.Loop.for L hok (f 0) body) (st 0) (f n) (st n) := by
  subst hn
  intro E Q
  refine .trans ?_ (Scf.wp_for _ _ E L.lb L.ub L.st hok (f 0) body (fun j acc => iprop(⌜acc = f j⌝ ∗ held c M (st j))) ?_)
  · iintro ⟨H, HQ⟩
    isplitl [H]
    · isplitr; · ipureintro; rfl
      iexact H
    · iintro %acc ⟨%h, H⟩
      rw [h]
      iapply HQ; iexact H
  · intro j acc
    iintro ⟨%h, H⟩
    rw [h]
    iapply (hbody j E _)
    isplitl [H]; · iexact H
    iintro H
    isplitr; · ipureintro; rfl
    iexact H

end Cert.Attn

end
-- ==== Proof.Exec.lean ====
/-
  What each step of the attention body does to the state: the four heads' steps as functions of the state, the sixteen
  blocks as iterations of them, and the whole body.
-/
module

public import proofs.«01_k».proof.Proof.Held

@[expose] public section

noncomputable section

namespace Cert.Attn

open Cert.KernelIdeal Cert.KernelIdeal.Gen
open Idealize.ShloMosaic Idealize.ShloMosaic.TcCoe
open Idealize.SL.Sem

variable {F : FTy → Type} [FloatOps F] {c : Dev nD} {M : Mems}

/-! ## One load or store -/

/-- Head `g`'s queries. -/
def St.qH (st : St F) (g : Fin 4) : Vec F S1x1x128x512 .bf16 := fun y => st.q ((qRect g).emb y)
/-- Key block `j`. -/
def St.kB (st : St F) (j : Fin 16) : Vec F S1x1x1024x128 .bf16 := fun y => st.k ((kRect j).emb y)
/-- Value block `j`. -/
def St.vB (st : St F) (j : Fin 16) : Vec F S1x1x128x1024 .bf16 := fun y => st.v ((vRect j).emb y)

theorem load_q (st : St F) (g : Fin 4) (hl) : Runs c M (Prog.lift (.load M.q (qRect g).toLoadRect hl)) st (st.qH g) st :=
  Runs.load (focus_q st) rfl (qRect g) hl _ fun _ => rfl
theorem load_k (st : St F) (j : Fin 16) (hl) : Runs c M (Prog.lift (.load M.k (kRect j).toLoadRect hl)) st (st.kB j) st :=
  Runs.load (focus_k st) rfl (kRect j) hl _ fun _ => rfl
theorem load_v (st : St F) (j : Fin 16) (hl) : Runs c M (Prog.lift (.load M.v (vRect j).toLoadRect hl)) st (st.vB j) st :=
  Runs.load (focus_v st) rfl (vRect j) hl _ fun _ => rfl
theorem load_n (st : St F) (off inb hl) :
    Runs c M (Prog.lift (.load M.n (Rect.unit (s := S1x1) off S1x1.size inb).toLoadRect hl)) st st.n st :=
  Runs.load (focus_n st) rfl _ hl _ fun y => congrArg st.n (emb_whole (s := S1x1) _ _ y)
theorem load_m (st : St F) (g : Fin 4) (hl) : Runs c M (Prog.lift (.load M.m (rowRect g).toLoadRect hl)) st (st.m g) st :=
  Runs.load (focus_m st) (by rw [Parts.part_pack]) (rowRect g) hl _ (Parts.ld_eq (rowRect g) rows g (emb_row g) st.m)
theorem load_l (st : St F) (g : Fin 4) (hl) : Runs c M (Prog.lift (.load M.l (rowRect g).toLoadRect hl)) st (st.l g) st :=
  Runs.load (focus_l st) (by rw [Parts.part_pack]) (rowRect g) hl _ (Parts.ld_eq (rowRect g) rows g (emb_row g) st.l)
theorem load_a (st : St F) (g : Fin 4) (hl) : Runs c M (Prog.lift (.load M.a (accRect g).toLoadRect hl)) st (st.a g) st :=
  Runs.load (focus_a st) (by rw [Parts.part_pack]) (accRect g) hl _ (Parts.ld_eq (accRect g) accs g (emb_acc g) st.a)
theorem load_s (st : St F) (b : Bool) (g : Fin 4) (hl) :
    Runs c M (Prog.lift (.load (M.s b) (scoreRect g).toLoadRect hl)) st (st.s b g) st :=
  Runs.load (focus_s st b) (by rw [Parts.part_pack, Function.update_eq_self]) (scoreRect g) hl _
    (Parts.ld_eq (scoreRect g) scos g (emb_score g) (st.s b))
theorem load_o (st : St F) (g : Fin 4) (hl) : Runs c M (Prog.lift (.load M.o (outRect g).toLoadRect hl)) st (st.o g) st :=
  Runs.load (focus_o st) (by rw [Parts.part_pack]) (outRect g) hl _ (Parts.ld_eq (outRect g) outs g (emb_out g) st.o)
theorem load_m_all (st : St F) (off inb hl) :
    Runs c M (Prog.lift (.load M.m (Rect.unit (s := S4x1x512) off S4x1x512.size inb).toLoadRect hl)) st (rows.pack st.m) st :=
  Runs.load (focus_m st) (by rw [Parts.part_pack]) _ hl _ fun y => congrArg (rows.pack st.m) (emb_whole (s := S4x1x512) _ _ y)
theorem load_l_all (st : St F) (off inb hl) :
    Runs c M (Prog.lift (.load M.l (Rect.unit (s := S4x1x512) off S4x1x512.size inb).toLoadRect hl)) st (rows.pack st.l) st :=
  Runs.load (focus_l st) (by rw [Parts.part_pack]) _ hl _ fun y => congrArg (rows.pack st.l) (emb_whole (s := S4x1x512) _ _ y)
theorem load_a_all (st : St F) (off inb hl) :
    Runs c M (Prog.lift (.load M.a (Rect.unit (s := S4x128x512) off S4x128x512.size inb).toLoadRect hl)) st (accs.pack st.a) st :=
  Runs.load (focus_a st) (by rw [Parts.part_pack]) _ hl _ fun y => congrArg (accs.pack st.a) (emb_whole (s := S4x128x512) _ _ y)

theorem store_n (st : St F) (off inb) (w : Vec F S1x1 .f32) (hx hm) :
    Runs c M (Prog.lift (.store M.n (Rect.unit (s := S1x1) off S1x1.size inb) w Finset.univ hx hm)) st ⟨⟩ { st with n := w } :=
  Runs.store (focus_n st) _ _ hx hm _ (by rw [overlay_whole (s := S1x1)])
theorem store_m (st : St F) (g : Fin 4) (w : Vec F S1x1x512 .f32) (hx hm) :
    Runs c M (Prog.lift (.store M.m (rowRect g) w Finset.univ hx hm)) st ⟨⟩ { st with m := Function.update st.m g w } :=
  Runs.store (focus_m st) (rowRect g) w hx hm _ (by rw [Parts.overlay_eq (rowRect g) rows g (emb_row g), Parts.part_pack])
theorem store_l (st : St F) (g : Fin 4) (w : Vec F S1x1x512 .f32) (hx hm) :
    Runs c M (Prog.lift (.store M.l (rowRect g) w Finset.univ hx hm)) st ⟨⟩ { st with l := Function.update st.l g w } :=
  Runs.store (focus_l st) (rowRect g) w hx hm _ (by rw [Parts.overlay_eq (rowRect g) rows g (emb_row g), Parts.part_pack])
theorem store_a (st : St F) (g : Fin 4) (w : Vec F S1x128x512 .f32) (hx hm) :
    Runs c M (Prog.lift (.store M.a (accRect g) w Finset.univ hx hm)) st ⟨⟩ { st with a := Function.update st.a g w } :=
  Runs.store (focus_a st) (accRect g) w hx hm _ (by rw [Parts.overlay_eq (accRect g) accs g (emb_acc g), Parts.part_pack])
theorem store_s (st : St F) (b : Bool) (g : Fin 4) (w : Vec F S1x1024x512 .f32) (hx hm) :
    Runs c M (Prog.lift (.store (M.s b) (scoreRect g) w Finset.univ hx hm)) st ⟨⟩
      { st with s := Function.update st.s b (Function.update (st.s b) g w) } :=
  Runs.store (focus_s st b) (scoreRect g) w hx hm _ (by rw [Parts.overlay_eq (scoreRect g) scos g (emb_score g), Parts.part_pack])
theorem store_o (st : St F) (g : Fin 4) (w : Vec F S1x512x128 .bf16) (hx hm) :
    Runs c M (Prog.lift (.store M.o (outRect g) w Finset.univ hx hm)) st ⟨⟩ { st with o := Function.update st.o g w } :=
  Runs.store (focus_o st) (outRect g) w hx hm _ (by rw [Parts.overlay_eq (outRect g) outs g (emb_out g), Parts.part_pack])
theorem store_m_all (st : St F) (off inb) (w : Vec F S4x1x512 .f32) (hx hm) :
    Runs c M (Prog.lift (.store M.m (Rect.unit (s := S4x1x512) off S4x1x512.size inb) w Finset.univ hx hm)) st ⟨⟩ { st with m := rows.part w } :=
  Runs.store (focus_m st) _ _ hx hm _ (by rw [overlay_whole (s := S4x1x512)])
theorem store_l_all (st : St F) (off inb) (w : Vec F S4x1x512 .f32) (hx hm) :
    Runs c M (Prog.lift (.store M.l (Rect.unit (s := S4x1x512) off S4x1x512.size inb) w Finset.univ hx hm)) st ⟨⟩ { st with l := rows.part w } :=
  Runs.store (focus_l st) _ _ hx hm _ (by rw [overlay_whole (s := S4x1x512)])
theorem store_a_all (st : St F) (off inb) (w : Vec F S4x128x512 .f32) (hx hm) :
    Runs c M (Prog.lift (.store M.a (Rect.unit (s := S4x128x512) off S4x128x512.size inb) w Finset.univ hx hm)) st ⟨⟩ { st with a := accs.part w } :=
  Runs.store (focus_a st) _ _ hx hm _ (by rw [overlay_whole (s := S4x128x512)])

/-! ## The heads' steps -/

/-- Four updates, one per head, are a function of the head. -/
theorem update4 {β : Type} (f h : Fin 4 → β) :
    Function.update (Function.update (Function.update (Function.update f 0 (h 0)) 1 (h 1)) 2 (h 2)) 3 (h 3) = h := by
  funext g; fin_cases g <;> simp [Function.update]

/-- Key block `j`'s scores in buffer `b`. -/
def St.scores (st : St F) (j : Fin 16) (b : Bool) : St F :=
  { st with s := Function.update st.s b fun g => k0_pay5 (st.kB j) (st.qH g) }
/-- Block `j` added to the sums under the fixed shift, from buffer `b`. -/
def St.add (st : St F) (j : Fin 16) (b : Bool) : St F :=
  { st with
    l := fun g => k0_pay18 (st.s b g) (st.m g) (st.l g)
    a := fun g => k0_pay19 (k0_pay16 (st.vB j)) (k0_pay17 (st.s b g) (st.m g)) (st.a g) }
/-- Block `j` added to the sums under the running maximum. -/
def St.online (st : St F) (j : Fin 16) : St F :=
  { st with
    m := fun g => k0_pay347 (k0_pay342 (st.kB j) (st.qH g) (st.m g))
    l := fun g => k0_pay345 (st.kB j) (st.qH g) (st.m g) (st.l g)
    a := fun g => k0_pay346 (k0_pay339 (st.vB j)) (k0_pay343 (st.kB j) (st.qH g) (st.m g)) (k0_pay344 (st.kB j) (st.qH g) (st.m g)) (st.a g) }

theorem run_scoreHead (st : St F) (kb : Vec F S1x1x1024x128 .bf16) (b : Bool) (g : Fin 4) :
    Runs c M (scoreHead M kb b g) st ⟨⟩ { st with s := Function.update st.s b (Function.update (st.s b) g (k0_pay5 kb (st.qH g))) } :=
  (load_q st g _).bind ((load_s st b g _).bind (store_s st b g _ _ _))

theorem run_scores (st : St F) (j : Fin 16) (b : Bool) : Runs c M (scores M j b) st ⟨⟩ (st.scores j b) := by
  refine (load_k st j _).bind ?_
  have h := Runs.four (fun g st' => run_scoreHead (c := c) (M := M) st' (st.kB j) b g) st
  simp only [Function.update_self, Function.update_idem] at h
  have e := update4 (st.s b) fun g => k0_pay5 (st.kB j) (st.qH g)
  exact (congrArg (fun f => Runs (α := PUnit) c M _ st ⟨⟩ { st with s := Function.update st.s b f }) e).mp h

theorem run_addHead (st : St F) (vb : Vec F S1x1x128x1024 .bf16) (b : Bool) (g : Fin 4) :
    Runs c M (addHead M vb b g) st ⟨⟩ { st with
      l := Function.update st.l g (k0_pay18 (st.s b g) (st.m g) (st.l g))
      a := Function.update st.a g (k0_pay19 (k0_pay16 vb) (k0_pay17 (st.s b g) (st.m g)) (st.a g)) } :=
  (load_s st b g _).bind ((load_m st g _).bind ((load_l st g _).bind ((load_l st g _).bind ((store_l st g _ _ _).bind
    ((load_a _ g _).bind ((load_a _ g _).bind (store_a _ g _ _ _)))))))

theorem run_addBlock (st : St F) (j : Fin 16) (b : Bool) : Runs c M (addBlock M j b) st ⟨⟩ (st.add j b) := by
  refine (load_v st j _).bind ?_
  have h := Runs.four (fun g st' => run_addHead (c := c) (M := M) st' (st.vB j) b g) st
  have e := update4 st.l fun g => k0_pay18 (st.s b g) (st.m g) (st.l g)
  have e' := update4 st.a fun g => k0_pay19 (k0_pay16 (st.vB j)) (k0_pay17 (st.s b g) (st.m g)) (st.a g)
  exact (congr (congrArg (fun f f' => Runs (α := PUnit) c M _ st ⟨⟩ { st with l := f, a := f' }) e) e').mp h

theorem run_pair (st : St F) (j j' : Fin 16) (b : Bool) :
    Runs c M (pair M j j' b) st ⟨⟩ ((st.scores j' (!b)).add j b) :=
  (run_scores st j' (!b)).bind (run_addBlock _ j b)

/-- Whether a number is odd. -/
def odd (n : Nat) : Bool := n % 2 == 1

/-- The state after the first block's scores and `n` further pairs. -/
def St.pairs (st : St F) : Nat → St F
  | 0 => st.scores 0 false
  | n + 1 => ((st.pairs n).scores (Fin.ofNat 16 (n + 1)) (!(odd n))).add (Fin.ofNat 16 n) (odd n)

/-- The state after the sums under the fixed shift. -/
def St.fixed (st : St F) : St F := (st.pairs 15).add 15 true

theorem run_fixedShift (st : St F) : Runs c M (fixedShift M) st ⟨⟩ st.fixed := by
  have hp : ∀ n, Runs c M (pair M (Fin.ofNat 16 n) (Fin.ofNat 16 (n + 1)) (odd n)) (st.pairs n) ⟨⟩ (st.pairs (n + 1)) :=
    fun n => run_pair _ _ _ _
  exact (run_scores st 0 false).bind ((hp 0).bind ((hp 1).bind ((hp 2).bind ((hp 3).bind ((hp 4).bind ((hp 5).bind ((hp 6).bind
    ((hp 7).bind ((hp 8).bind ((hp 9).bind ((hp 10).bind ((hp 11).bind ((hp 12).bind ((hp 13).bind ((hp 14).bind
    (run_addBlock _ 15 true))))))))))))))))

theorem run_onlineHead (st : St F) (kb : Vec F S1x1x1024x128 .bf16) (vb : Vec F S1x1x128x1024 .bf16) (g : Fin 4) :
    Runs c M (onlineHead M kb vb g) st ⟨⟩ { st with
      m := Function.update st.m g (k0_pay347 (k0_pay342 kb (st.qH g) (st.m g)))
      l := Function.update st.l g (k0_pay345 kb (st.qH g) (st.m g) (st.l g))
      a := Function.update st.a g (k0_pay346 (k0_pay339 vb) (k0_pay343 kb (st.qH g) (st.m g)) (k0_pay344 kb (st.qH g) (st.m g)) (st.a g)) } :=
  (load_q st g _).bind ((load_m st g _).bind ((load_l st g _).bind ((load_l st g _).bind ((store_l st g _ _ _).bind
    ((load_a _ g _).bind ((load_a _ g _).bind ((store_a _ g _ _ _).bind ((load_m _ g _).bind (store_m _ g _ _ _)))))))))

theorem run_onlineBlock (st : St F) (j : Fin 16) (ko vo : Fin 4 → Nat) (hk hv)
    (hko : ko = ![0, 0, 1024 * j.val, 0]) (hvo : vo = ![0, 0, 0, 1024 * j.val]) :
    Runs c M (onlineBlock M ko hk vo hv) st ⟨⟩ (st.online j) := by
  subst hko hvo
  refine (load_k st j _).bind ((load_v st j _).bind ?_)
  have h := Runs.four (fun g st' => run_onlineHead (c := c) (M := M) st' (st.kB j) (st.vB j) g) st
  have e := update4 st.m fun g => k0_pay347 (k0_pay342 (st.kB j) (st.qH g) (st.m g))
  have e' := update4 st.l fun g => k0_pay345 (st.kB j) (st.qH g) (st.m g) (st.l g)
  have e'' := update4 st.a fun g => k0_pay346 (k0_pay339 (st.vB j)) (k0_pay343 (st.kB j) (st.qH g) (st.m g)) (k0_pay344 (st.kB j) (st.qH g) (st.m g)) (st.a g)
  exact (congr (congr (congrArg (fun f f' f'' => Runs (α := PUnit) c M _ st ⟨⟩ { st with m := f, l := f', a := f'' }) e) e') e'').mp h

theorem off1_eq : ∀ j : Fin k0_t1_loop.trips, k0_off1 j = ![0, 0, 1024 * (j.cast trips1).val, 0] := by decide +kernel
theorem off2_eq : ∀ j : Fin k0_t2_loop.trips, k0_off2 j = ![0, 0, 1024 * (j.cast trips2).val, 0] := by decide +kernel
theorem off3_eq : ∀ j : Fin k0_t2_loop.trips, k0_off3 j = ![0, 0, 0, 1024 * (j.cast trips2).val] := by decide +kernel

/-- The state before trip `n` of the running-maximum loop: the blocks before `n` added. -/
def St.onlineTo (st : St F) : Nat → St F
  | 0 => st
  | n + 1 => (st.onlineTo n).online (Fin.ofNat 16 n)

theorem ofNat_cast {n : Nat} (h : n = 16) (j : Fin n) : Fin.ofNat 16 j.val = j.cast h := by
  subst h; exact Fin.ext (Nat.mod_eq_of_lt j.isLt)

theorem run_online (st : St F) :
    Runs c M (online M) st ⟨⟩ (St.onlineTo { st with m := rows.part (k0_pay385 (F := F)) } 16) := by
  refine (load_m_all st _ _ _).bind ((store_m_all st _ _ _ _ _).bind ?_)
  have h := Runs.loop (c := c) (M := M) k0_t2_loop k0_t2_ok
    (fun j _ => onlineBlock M (k0_off2 j) (k0_off2_inb j) (k0_off3 j) (k0_off3_inb j)) (fun _ => ⟨⟩)
    (St.onlineTo { st with m := rows.part (k0_pay385 (F := F)) }) trips2 (fun j => by
      have := run_onlineBlock (c := c) (M := M) (St.onlineTo { st with m := rows.part (k0_pay385 (F := F)) } j) (j.cast trips2)
        (k0_off2 j) (k0_off3 j) (k0_off2_inb j) (k0_off3_inb j) (off2_eq j) (off3_eq j)
      rw [← ofNat_cast trips2 j] at this
      exact this)
  exact h

/-- The row-by-row largest key norms over the blocks before `n`. -/
def St.normsTo (st : St F) : Nat → FVec F S1024x1 .f32
  | 0 => k0_pay372 (F := F)
  | n + 1 => k0_pay373 (st.normsTo n) (st.kB (Fin.ofNat 16 n))

/-- The largest key norm. -/
def St.norm (st : St F) : Vec F S1x1 .f32 := k0_pay374 (st.normsTo 16)

theorem run_keepNorm (st : St F) (i : grid0.Coords) (h : k0_cond1 i = 1#1) :
    Runs c M (keepNorm M i h) st ⟨⟩ { st with n := st.norm } := by
  have hl := Runs.loop (c := c) (M := M) k0_t1_loop (k0_t1_ok i h) (fun j best => (do
      let kb : Vec F S1x1x1024x128 .bf16 ← Prog.lift (.load M.k (Rect.unit (s := S1x1x16384x128) (k0_off1 j) S1x1x1024x128.size (k0_off1_inb i j h)).toLoadRect (View.loadsAt_vmem h_S1x1x1024x128))
      pure (k0_pay373 best kb) : Code F (FVec F S1024x1 .f32))) st.normsTo (fun _ => st) trips1 (fun j => by
    refine Runs.bind (a := st.kB (Fin.ofNat 16 j)) ?_ (Runs.pure _ st)
    rw [ofNat_cast trips1 j]
    refine Runs.load (focus_k st) rfl _ _ _ fun y => ?_
    refine congrArg st.k (funext fun a => Fin.ext ?_)
    exact congrArg (· + 1 * (y a).val) (congrFun (off1_eq j) a))
  refine Runs.bind (a := st.normsTo 16) hl ?_
  exact (load_n st _ _ _).bind (store_n st _ _ _ _ _)

theorem run_shiftHead (st : St F) (g : Fin 4) :
    Runs c M (shiftHead M g) st ⟨⟩ { st with m := Function.update st.m g (k0_pay375 (st.qH g) st.n) } :=
  (load_q st g _).bind ((load_n st _ _ _).bind ((load_m st g _).bind (store_m st g _ _ _)))

theorem run_outHead (st : St F) (ho : M.o.IsWhole) (g : Fin 4) :
    Runs c M (outHead M ho g) st ⟨⟩ { st with o := Function.update st.o g (k0_pay389 (st.a g) (st.l g)) } :=
  (load_a st g _).bind ((load_l st g _).bind ((load_o st g _).bind (store_o st g _ _ _)))

theorem run_whenever {p : Prop} [Decidable p] {A : p → Code F PUnit} {st st' : St F}
    (h : ∀ hp, Runs c M (A hp) st ⟨⟩ st') : Runs c M (whenever p A) st ⟨⟩ (if p then st' else st) := by
  unfold whenever
  split
  · exact h _
  · exact Runs.pure _ st

/-! ## The body -/

/-- The state after the sums: the fixed shift where the largest shift is at most sixty, else the running maximum. -/
def St.sums (st : St F) : St F :=
  if safe (rows.pack st.m) = 1#1 then st.fixed
  else St.onlineTo { st with m := rows.part (k0_pay385 (F := F)) } 16

theorem run_sums (st : St F) : Runs c M (sums M (rows.pack st.m)) st ⟨⟩ st.sums := by
  unfold sums St.sums
  generalize safe (rows.pack st.m) = x
  have hx : x = 0#1 ∨ x = 1#1 := by revert x; decide
  rcases hx with rfl | rfl
  · exact (run_whenever fun _ => run_fixedShift st).bind (run_whenever fun _ => run_online _)
  · exact (run_whenever fun _ => run_fixedShift st).bind (run_whenever fun _ => run_online _)

/-- The shifts of the four heads. -/
def St.shifted (st : St F) : St F := { st with m := fun g => k0_pay375 (st.qH g) st.n }

/-- The sums at zero. -/
def St.zeroed (st : St F) : St F :=
  { st with
    l := rows.part (k0_pay379 (F := F))
    a := accs.part (k0_pay381 (k0_pay380 (F := F))) }

/-- The output, from the sums. -/
def St.outed (st : St F) : St F := { st with o := fun g => k0_pay389 (st.a g) (st.l g) }

/-- The state after the body, from the state with the key norm set. -/
def St.after (st : St F) : St F := st.shifted.zeroed.sums.outed

theorem run_outs (st : St F) (ho : M.o.IsWhole) :
    Runs c M (do outHead M ho 0; outHead M ho 1; outHead M ho 2; outHead M ho 3) st ⟨⟩ st.outed := by
  have h := Runs.four (fun g st' => run_outHead (c := c) (M := M) st' ho g) st
  have e := update4 st.o fun g => k0_pay389 (st.a g) (st.l g)
  exact (congrArg (fun f => Runs (α := PUnit) c M _ st ⟨⟩ { st with o := f }) e).mp h

theorem run_finish (st : St F) (ho : M.o.IsWhole) :
    Runs c M (finish M ho) st ⟨⟩ (St.outed (St.sums { st with a := accs.part (k0_pay381 (k0_pay380 (F := F))) })) :=
  (store_a_all st _ _ _ _ _).bind ((load_m_all _ _ _ _).bind ((run_sums _).bind (run_outs _ ho)))

theorem run_body (st : St F) (i : grid0.Coords) (ho : M.o.IsWhole) :
    Runs c M (body M i ho) st ⟨⟩ (St.after (if k0_cond1 i = 1#1 then { st with n := st.norm } else st)) := by
  generalize hst : (if k0_cond1 i = 1#1 then { st with n := st.norm } else st) = st₁
  have h1 := run_whenever (c := c) (M := M) (fun h => run_keepNorm st i h)
  rw [hst] at h1
  obtain ⟨T, hT⟩ : ∃ T : St F, T = { st₁ with m := Function.update (Function.update st₁.m 0 (k0_pay375 (st₁.qH 0) st₁.n)) 1 (k0_pay375 (st₁.qH 1) st₁.n) } := ⟨_, rfl⟩
  have h0 : Runs c M (start M i) st ⟨⟩ T := by
    rw [hT]; exact h1.bind ((run_shiftHead st₁ 0).bind (run_shiftHead _ 1))
  have h2 : { T with m := Function.update (Function.update T.m 2 (k0_pay375 (T.qH 2) T.n)) 3 (k0_pay375 (T.qH 3) T.n) } = st₁.shifted := by
    rw [hT]
    exact congrArg (fun f => { st₁ with m := f }) (update4 st₁.m fun g => k0_pay375 (st₁.qH g) st₁.n)
  have h3 : Runs c M (shiftHead M 3) { T with m := Function.update T.m 2 (k0_pay375 (T.qH 2) T.n) } ⟨⟩ st₁.shifted := by
    rw [← h2]; exact run_shiftHead _ 3
  exact h0.bind ((run_shiftHead T 2).bind (h3.bind ((load_l_all _ _ _ _).bind ((store_l_all _ _ _ _ _ _).bind
    ((load_a_all _ _ _ _).bind (run_finish _ ho))))))

end Cert.Attn

end
-- ==== Proof.Block.lean ====
/-
  The output block of the attention body as a function of what its result depends on — the block of queries, the keys,
  the values and the largest key norm — and the proof that the body's state after its steps holds that block.
-/
module

public import proofs.«01_k».proof.Proof.Exec

@[expose] public section

noncomputable section

namespace Cert.Attn

open Cert.KernelIdeal Cert.KernelIdeal.Gen
open Idealize.ShloMosaic Idealize.ShloMosaic.TcCoe
open Idealize.SL.Sem

variable {F : FTy → Type} [FloatOps F]

/-! ## The block's formula -/

/-- Head `g`'s queries. -/
def qHead (q : Vec F S1x4x128x512 .bf16) (g : Fin 4) : Vec F S1x1x128x512 .bf16 := fun y => q ((qRect g).emb y)
/-- Key block `j`. -/
def keyBlock (k : Vec F S1x1x16384x128 .bf16) (j : Fin 16) : Vec F S1x1x1024x128 .bf16 := fun y => k ((kRect j).emb y)
/-- Value block `j`. -/
def valBlock (v : Vec F S1x1x128x16384 .bf16) (j : Fin 16) : Vec F S1x1x128x1024 .bf16 := fun y => v ((vRect j).emb y)

/-- The row-by-row largest key norms over the blocks before `n`. -/
def normsTo (k : Vec F S1x1x16384x128 .bf16) : Nat → FVec F S1024x1 .f32
  | 0 => k0_pay372 (F := F)
  | n + 1 => k0_pay373 (normsTo k n) (keyBlock k (Fin.ofNat 16 n))

/-- The largest key norm. -/
def keyNorm (k : Vec F S1x1x16384x128 .bf16) : Vec F S1x1 .f32 := k0_pay374 (normsTo k 16)

/-- The heads' zero denominators and numerators. -/
def zeroL : Fin 4 → Vec F S1x1x512 .f32 := rows.part (k0_pay379 (F := F))
def zeroA : Fin 4 → Vec F S1x128x512 .f32 := accs.part (k0_pay381 (k0_pay380 (F := F)))
/-- The heads' shifts before the first block of the running maximum. -/
def lowM : Fin 4 → Vec F S1x1x512 .f32 := rows.part (k0_pay385 (F := F))

/-- One head's scores against key block `j`. -/
def blockScores (q : Vec F S1x4x128x512 .bf16) (k : Vec F S1x1x16384x128 .bf16) (g : Fin 4) (j : Fin 16) : Vec F S1x1024x512 .f32 :=
  k0_pay5 (keyBlock k j) (qHead q g)

variable (q : Vec F S1x4x128x512 .bf16) (k : Vec F S1x1x16384x128 .bf16) (v : Vec F S1x1x128x16384 .bf16) (N : Vec F S1x1 .f32)

/-- The heads' fixed shifts. -/
def shift (g : Fin 4) : Vec F S1x1x512 .f32 := k0_pay375 (qHead q g) N

/-- Head `g`'s denominators and numerators over the blocks before `n`, under the fixed shift. -/
def fixedTo (g : Fin 4) : Nat → Vec F S1x1x512 .f32 × Vec F S1x128x512 .f32
  | 0 => (zeroL g, zeroA g)
  | n + 1 =>
    (k0_pay18 (blockScores q k g (Fin.ofNat 16 n)) (shift q N g) (fixedTo g n).1,
     k0_pay19 (k0_pay16 (valBlock v (Fin.ofNat 16 n))) (k0_pay17 (blockScores q k g (Fin.ofNat 16 n)) (shift q N g)) (fixedTo g n).2)

/-- Head `g`'s shifts, denominators and numerators over the blocks before `n`, under the running maximum. -/
def onlineTo (g : Fin 4) : Nat → Vec F S1x1x512 .f32 × Vec F S1x1x512 .f32 × Vec F S1x128x512 .f32
  | 0 => (lowM g, zeroL g, zeroA g)
  | n + 1 =>
    (k0_pay347 (k0_pay342 (keyBlock k (Fin.ofNat 16 n)) (qHead q g) (onlineTo g n).1),
     k0_pay345 (keyBlock k (Fin.ofNat 16 n)) (qHead q g) (onlineTo g n).1 (onlineTo g n).2.1,
     k0_pay346 (k0_pay339 (valBlock v (Fin.ofNat 16 n))) (k0_pay343 (keyBlock k (Fin.ofNat 16 n)) (qHead q g) (onlineTo g n).1)
       (k0_pay344 (keyBlock k (Fin.ofNat 16 n)) (qHead q g) (onlineTo g n).1) (onlineTo g n).2.2)

/-- Head `g`'s output columns. -/
def headOut (g : Fin 4) : Vec F S1x512x128 .bf16 :=
  if safe (rows.pack (shift q N)) = 1#1 then k0_pay389 (fixedTo q k v N g 16).2 (fixedTo q k v N g 16).1
  else k0_pay389 (onlineTo q k v g 16).2.2 (onlineTo q k v g 16).2.1

/-! ## The state holds it -/

variable {q k v N}

theorem pairs_eq (st : St F) (hm : st.m = shift st.q st.n) (hl : st.l = zeroL) (ha : st.a = zeroA) (n : Nat) :
    ∃ S : Bool → Fin 4 → Vec F S1x1024x512 .f32,
      st.pairs n = { st with
        l := fun g => (fixedTo st.q st.k st.v st.n g n).1
        a := fun g => (fixedTo st.q st.k st.v st.n g n).2
        s := S }
      ∧ S (odd n) = fun g => blockScores st.q st.k g (Fin.ofNat 16 n) := by
  induction n with
  | zero =>
    refine ⟨Function.update st.s false fun g => k0_pay5 (st.kB 0) (st.qH g), ?_, ?_⟩
    · exact congr (congrArg (fun f f' => ({ st with l := f, a := f', s := Function.update st.s false fun g => k0_pay5 (st.kB 0) (st.qH g) } : St F)) hl) ha
    · exact Function.update_self _ _ _
  | succ n ih =>
    obtain ⟨S, hT, hs⟩ := ih
    have hne : odd n ≠ !(odd n) := by simp
    have hodd : odd (n + 1) = !(odd n) := by
      unfold odd; rcases Nat.mod_two_eq_zero_or_one n with h | h <;> simp [Nat.add_mod, h]
    refine ⟨Function.update S (!(odd n)) fun g => blockScores st.q st.k g (Fin.ofNat 16 (n + 1)), ?_, ?_⟩
    · show ((st.pairs n).scores (Fin.ofNat 16 (n + 1)) (!(odd n))).add (Fin.ofNat 16 n) (odd n) = _
      rw [hT]
      have hS : (Function.update S (!(odd n)) fun g => blockScores st.q st.k g (Fin.ofNat 16 (n + 1))) (odd n)
          = fun g => blockScores st.q st.k g (Fin.ofNat 16 n) := (Function.update_of_ne hne _ _).trans hs
      exact congr (congrArg (fun (f : Fin 4 → Vec F S1x1024x512 .f32) (μ : Fin 4 → Vec F S1x1x512 .f32) => ({ st with
        l := fun g => k0_pay18 (f g) (μ g) (fixedTo st.q st.k st.v st.n g n).1
        a := fun g => k0_pay19 (k0_pay16 (valBlock st.v (Fin.ofNat 16 n))) (k0_pay17 (f g) (μ g)) (fixedTo st.q st.k st.v st.n g n).2
        s := Function.update S (!(odd n)) fun g => blockScores st.q st.k g (Fin.ofNat 16 (n + 1)) } : St F)) hS) hm
    · rw [hodd]; exact Function.update_self _ _ _

theorem fixed_eq (st : St F) (hm : st.m = shift st.q st.n) (hl : st.l = zeroL) (ha : st.a = zeroA) :
    ∃ S : Bool → Fin 4 → Vec F S1x1024x512 .f32,
      st.fixed = { st with
        l := fun g => (fixedTo st.q st.k st.v st.n g 16).1
        a := fun g => (fixedTo st.q st.k st.v st.n g 16).2
        s := S } := by
  obtain ⟨S, hT, hs⟩ := pairs_eq st hm hl ha 15
  refine ⟨S, ?_⟩
  unfold St.fixed; rw [hT]
  exact congr (congrArg (fun (f : Fin 4 → Vec F S1x1024x512 .f32) (μ : Fin 4 → Vec F S1x1x512 .f32) => ({ st with
    l := fun g => k0_pay18 (f g) (μ g) (fixedTo st.q st.k st.v st.n g 15).1
    a := fun g => k0_pay19 (k0_pay16 (valBlock st.v 15)) (k0_pay17 (f g) (μ g)) (fixedTo st.q st.k st.v st.n g 15).2
    s := S } : St F)) hs) hm

theorem onlineTo_eq (st : St F) (hl : st.l = zeroL) (ha : st.a = zeroA) (n : Nat) :
    St.onlineTo { st with m := lowM } n = { st with
      m := fun g => (onlineTo st.q st.k st.v g n).1
      l := fun g => (onlineTo st.q st.k st.v g n).2.1
      a := fun g => (onlineTo st.q st.k st.v g n).2.2 } := by
  induction n with
  | zero => exact congr (congrArg (fun f f' => ({ st with m := lowM, l := f, a := f' } : St F)) hl) ha
  | succ n ih =>
    show (St.onlineTo { st with m := lowM } n).online (Fin.ofNat 16 n) = _
    rw [ih]; rfl

/-- The body leaves the queries, keys, values and key norm in place, and the output at its formula. -/
theorem after_eq (st : St F) :
    ∃ m l a s, St.after st = { st with o := headOut st.q st.k st.v st.n, m := m, l := l, a := a, s := s } := by
  unfold St.after St.sums
  by_cases h : safe (rows.pack (shift st.q st.n)) = 1#1
  · obtain ⟨S, hS⟩ := fixed_eq st.shifted.zeroed rfl rfl rfl
    rw [if_pos (show safe (rows.pack st.shifted.zeroed.m) = 1#1 from h), hS]
    refine ⟨_, _, _, _, congrArg (fun f => ({ st with o := f, m := shift st.q st.n, l := _, a := _, s := S } : St F)) ?_⟩
    funext g
    exact (if_pos h).symm
  · rw [if_neg (show ¬ safe (rows.pack st.shifted.zeroed.m) = 1#1 from h)]
    refine ⟨_, _, _, _, (congrArg St.outed (onlineTo_eq st.shifted.zeroed rfl rfl 16)).trans
      (congrArg (fun f => ({ st with o := f, m := _, l := _, a := _, s := st.s } : St F)) ?_)⟩
    funext g
    exact (if_neg h).symm

theorem norm_eq (st : St F) : st.norm = keyNorm st.k := by
  have h : ∀ n, st.normsTo n = normsTo st.k n := fun n => by
    induction n with
    | zero => rfl
    | succ n ih => exact congrArg (fun f => k0_pay373 f (st.kB (Fin.ofNat 16 n))) ih
  exact congrArg k0_pay374 (h 16)

end Cert.Attn

end
-- ==== Proof.Fixed.lean ====
/-
  The printed sums under the fixed shift equal to the sixteen blocks' steps of `Proof/Steps.lean`.
-/
module

public import proofs.«01_k».proof.Proof.Steps

@[expose] public section

noncomputable section

namespace Cert.Attn

open Cert.KernelIdeal Cert.KernelIdeal.Gen
open Idealize.ShloMosaic Idealize.SL.Sem

variable {F : FTy → Type} [FloatOps F]

variable (M : Mems) (i : grid0.Coords) (h0 : M.q.IsWhole) (h1 : M.k.IsWhole) (h2 : M.v.IsWhole) (h3 : M.o.IsWhole)
  (h4 : M.n.IsWhole) (h5 : M.m.IsWhole) (h6 : M.l.IsWhole) (h7 : M.a.IsWhole) (h8 : (M.s false).IsWhole)
  (h9 : (M.s true).IsWhole)

/-- The printed sums under the fixed shift, then `f`. -/
def safePrinted {α : Type} (f : Code F α) : Code F α := do
  let x ← k0_part69 i M.q h0 M.k h1 M.v h2 M.o h3 M.n h4 M.m h5 M.l h6 M.a h7 (M.s false) h8 (M.s true) h9
  let y ← k0_part61 i M.q h0 M.k h1 M.v h2 M.o h3 M.n h4 M.m h5 M.l h6 M.a h7 (M.s false) h8 (M.s true) h9 x.1 x.2.1 x.2.2
  let z ← k0_part62 i M.q h0 M.k h1 M.v h2 M.o h3 M.n h4 M.m h5 M.l h6 M.a h7 (M.s false) h8 (M.s true) h9 y
  let u ← k0_part63 i M.q h0 M.k h1 M.v h2 M.o h3 M.n h4 M.m h5 M.l h6 M.a h7 (M.s false) h8 (M.s true) h9 z
  let v ← k0_part64 i M.q h0 M.k h1 M.v h2 M.o h3 M.n h4 M.m h5 M.l h6 M.a h7 (M.s false) h8 (M.s true) h9 u
  let w ← k0_part65 i M.q h0 M.k h1 M.v h2 M.o h3 M.n h4 M.m h5 M.l h6 M.a h7 (M.s false) h8 (M.s true) h9 u v.1 v.2
  let p ← k0_part66 i M.q h0 M.k h1 M.v h2 M.o h3 M.n h4 M.m h5 M.l h6 M.a h7 (M.s false) h8 (M.s true) h9 u w.1 w.2
  let q ← k0_part67 i M.q h0 M.k h1 M.v h2 M.o h3 M.n h4 M.m h5 M.l h6 M.a h7 (M.s false) h8 (M.s true) h9 p.1 p.2
  let r ← k0_part68 i M.q h0 M.k h1 M.v h2 M.o h3 M.n h4 M.m h5 M.l h6 M.a h7 (M.s false) h8 (M.s true) h9 p.1 q.1 q.2
  let _ : Vec F S1x1x512 .f32 ← Prog.lift (.load M.l (rowRect 3).toLoadRect (View.loadsAt_vmem h_S1x1x512))
  Prog.lift (.store M.l (rowRect 3) (k0_pay383 r.2) Finset.univ (View.stores_vmem_bits_univ h_S1x1x512 rfl) (.inl rfl))
  let a : Vec F S1x128x512 .f32 ← Prog.lift (.load M.a (accRect 3).toLoadRect (View.loadsAt_vmem h_S1x128x512))
  let _ : Vec F S1x128x512 .f32 ← Prog.lift (.load M.a (accRect 3).toLoadRect (View.loadsAt_vmem h_S1x128x512))
  Prog.lift (.store M.a (accRect 3) (k0_pay384 p.1 r.1 a) Finset.univ (View.stores_vmem_bits_univ h_S1x128x512 rfl) (.inl rfl))
  f

set_option maxRecDepth 65536 in
set_option maxHeartbeats 40000000 in
/-- They are the sixteen blocks' steps. -/
theorem safePrinted_pure :
    safePrinted M i h0 h1 h2 h3 h4 h5 h6 h7 h8 h9 (pure ⟨⟩ : Code F PUnit) = fixedShift M := rfl

/-- They are the sixteen blocks' steps, then `f`. -/
theorem safePrinted_eq {α : Type} (f : Code F α) :
    safePrinted M i h0 h1 h2 h3 h4 h5 h6 h7 h8 h9 f = fixedShift M >>= fun _ => f := by
  rw [← safePrinted_pure M i h0 h1 h2 h3 h4 h5 h6 h7 h8 h9]
  unfold safePrinted
  simp only [bind_assoc, pure_bind]

end Cert.Attn

end
-- ==== Proof.Printed.lean ====
/-
  The printed body equal to the short program of `Proof/Steps.lean`: the straight stretches agree by computing both, and
  where a condition or a loop stops that the two sides are regrouped by hand.
-/
module

public import proofs.«01_k».proof.Proof.Fixed

@[expose] public section

noncomputable section

namespace Cert.Attn

open Cert.KernelIdeal Cert.KernelIdeal.Gen
open Idealize.ShloMosaic Idealize.SL.Sem

variable {F : FTy → Type} [FloatOps F]

/-- A condition whose two sides end in the same program, as the conditional part and then that program. -/
theorem dite_bind_eq {α : Type} (c : Prop) [Decidable c] (A : c → Code F PUnit) (f : PUnit → Code F α) :
    (if h : c then A h >>= f else f ⟨⟩) = whenever c A >>= f := by
  unfold whenever; split <;> rfl

variable (M : Mems) (i : grid0.Coords) (h0 : M.q.IsWhole) (h1 : M.k.IsWhole) (h2 : M.v.IsWhole) (h3 : M.o.IsWhole)
  (h4 : M.n.IsWhole) (h5 : M.m.IsWhole) (h6 : M.l.IsWhole) (h7 : M.a.IsWhole) (h8 : (M.s false).IsWhole)
  (h9 : (M.s true).IsWhole)

/-- The printed head of the body is `start`. -/
theorem part74_eq :
    k0_part74 (F := F) i M.q h0 M.k h1 M.v h2 M.o h3 M.n h4 M.m h5 M.l h6 M.a h7 (M.s false) h8 (M.s true) h9 = start M i := by
  rw [k0_part74_eq_skeleton]
  unfold k0_part74_skel
  refine Eq.trans ?_ (dite_bind_eq (k0_cond1 i = 1#1) (keepNorm M i) (fun _ => shiftHead M 0 >>= fun _ => shiftHead M 1))
  refine dite_congr rfl (fun _ => ?_) (fun _ => rfl)
  exact (Prog.bind_assoc (keyNorms M i _) (storeNorm M) (fun _ => shiftHead M 0 >>= fun _ => shiftHead M 1)).symm

set_option maxRecDepth 65536 in
/-- One trip of the printed loop is the four heads' step. -/
theorem t2_body_eq (v59 : FVec F S4x128x512 .f32) (v60 : Vec F S4x128x512 .f32) (j : Fin k0_t2_loop.trips) (u : PUnit) :
    k0_t2_body (F := F) i M.q h0 M.k h1 M.v h2 M.o h3 M.n h4 M.m h5 M.l h6 M.a h7 (M.s false) h8 (M.s true) h9 v59 v60 j u
      = onlineBlock M (k0_off2 j) (k0_off2_inb j) (k0_off3 j) (k0_off3_inb j) := rfl

/-- The first head's columns, and the second head's loads. -/
def firstOut : Code F (FVec F S512x128 .bf16) := do
  outHead M h3 0
  let a : Vec F S1x128x512 .f32 ← Prog.lift (.load M.a (accRect 1).toLoadRect (View.loadsAt_vmem h_S1x128x512))
  let l : Vec F S1x1x512 .f32 ← Prog.lift (.load M.l (rowRect 1).toLoadRect (View.loadsAt_vmem h_S1x1x512))
  pure (k0_pay390 a l)

/-- The printed sums, by both forms, then `f`. -/
def sumsPrinted {α : Type} (m : Vec F S4x1x512 .f32) (v59 : FVec F S4x128x512 .f32) (v60 : Vec F S4x128x512 .f32)
    (f : Code F α) : Code F α :=
  let g : Code F α :=
    if Scalar.cmpi .ne (Scalar.extui (Scalar.xori (safe m) 1#1)) 0#32 = 1#1 then do
      let _ : Vec F S4x1x512 .f32 ← Prog.lift (.load M.m (Rect.unit (s := S4x1x512) ![0, 0, 0] S4x1x512.size inb_S4x1x512_S4x1x512_0_0_0).toLoadRect (View.loadsAt_vmem h_S4x1x512))
      Prog.lift (.store M.m (Rect.unit (s := S4x1x512) ![0, 0, 0] S4x1x512.size inb_S4x1x512_S4x1x512_0_0_0) (k0_pay385 (F := F)) Finset.univ (View.stores_vmem_bits_univ h_S4x1x512 rfl) (.inl rfl))
      let _ : PUnit ← Scf.Loop.for k0_t2_loop k0_t2_ok ⟨⟩
        (k0_t2_body i M.q h0 M.k h1 M.v h2 M.o h3 M.n h4 M.m h5 M.l h6 M.a h7 (M.s false) h8 (M.s true) h9 v59 v60)
      f
    else f
  if Scalar.cmpi .ne (Scalar.extui (safe m)) 0#32 = 1#1 then safePrinted M i h0 h1 h2 h3 h4 h5 h6 h7 h8 h9 g else g

/-- They are `sums`, then `f`. -/
theorem sumsPrinted_eq {α : Type} (m : Vec F S4x1x512 .f32) (v59 : FVec F S4x128x512 .f32) (v60 : Vec F S4x128x512 .f32)
    (f : Code F α) :
    sumsPrinted M i h0 h1 h2 h3 h4 h5 h6 h7 h8 h9 m v59 v60 f = sums M m >>= fun _ => f := by
  have hb : (k0_t2_body i M.q h0 M.k h1 M.v h2 M.o h3 M.n h4 M.m h5 M.l h6 M.a h7 (M.s false) h8 (M.s true) h9 v59 v60
      : Fin k0_t2_loop.trips → PUnit → Code F PUnit)
      = fun j _ => onlineBlock M (k0_off2 j) (k0_off2_inb j) (k0_off3 j) (k0_off3_inb j) :=
    funext fun j => funext fun u => t2_body_eq M i h0 h1 h2 h3 h4 h5 h6 h7 h8 h9 v59 v60 j u
  unfold sumsPrinted sums
  dsimp only
  rw [hb, safePrinted_eq]
  refine Eq.trans ?_ (bind_assoc _ _ _).symm
  refine Eq.trans ?_ (dite_bind_eq _ _ _)
  refine dite_congr rfl (fun _ => congrArg (fun p => fixedShift M >>= fun _ => p) ?_) (fun _ => ?_) <;>
    exact dite_bind_eq (Scalar.cmpi .ne (Scalar.extui (Scalar.xori (safe m) 1#1)) 0#32 = 1#1) (fun _ => online M) (fun _ => f)

/-- The printed middle of the body. -/
theorem part76_eq (v59 : FVec F S4x128x512 .f32) (v60 : Vec F S4x128x512 .f32) :
    k0_part76 (F := F) i M.q h0 M.k h1 M.v h2 M.o h3 M.n h4 M.m h5 M.l h6 M.a h7 (M.s false) h8 (M.s true) h9 v59 v60 = (do
      Prog.lift (.store M.a (Rect.unit (s := S4x128x512) ![0, 0, 0] S4x128x512.size inb_S4x128x512_S4x128x512_0_0_0) (k0_pay381 v59) Finset.univ (View.stores_vmem_bits_univ h_S4x128x512 rfl) (.inl rfl))
      let m : Vec F S4x1x512 .f32 ← Prog.lift (.load M.m (Rect.unit (s := S4x1x512) ![0, 0, 0] S4x1x512.size inb_S4x1x512_S4x1x512_0_0_0).toLoadRect (View.loadsAt_vmem h_S4x1x512))
      sumsPrinted M i h0 h1 h2 h3 h4 h5 h6 h7 h8 h9 m v59 v60 (firstOut M h3)) := rfl

/-- The printed body is the short program. -/
theorem printed :
    cc0_attn (F := F) i M.q h0 M.k h1 M.v h2 M.o h3 M.n h4 M.m h5 M.l h6 M.a h7 (M.s false) h8 (M.s true) h9 = body M i h3 := by
  rw [cc0_attn_eq_skeleton]
  unfold cc0_attn_skel
  rw [part74_eq]
  refine congrArg (fun f => start M i >>= f) (funext fun _ => ?_)
  have h76 : ∀ v59 v60, k0_part76 (F := F) i M.q h0 M.k h1 M.v h2 M.o h3 M.n h4 M.m h5 M.l h6 M.a h7 (M.s false) h8 (M.s true) h9 v59 v60 = (do
      Prog.lift (.store M.a (Rect.unit (s := S4x128x512) ![0, 0, 0] S4x128x512.size inb_S4x128x512_S4x128x512_0_0_0) (k0_pay381 v59) Finset.univ (View.stores_vmem_bits_univ h_S4x128x512 rfl) (.inl rfl))
      let m : Vec F S4x1x512 .f32 ← Prog.lift (.load M.m (Rect.unit (s := S4x1x512) ![0, 0, 0] S4x1x512.size inb_S4x1x512_S4x1x512_0_0_0).toLoadRect (View.loadsAt_vmem h_S4x1x512))
      sums M m
      firstOut M h3) := fun v59 v60 =>
    (part76_eq M i h0 h1 h2 h3 h4 h5 h6 h7 h8 h9 v59 v60).trans (by simp only [sumsPrinted_eq])
  simp only [h76, bind_assoc]
  rfl

end Cert.Attn

end
-- ==== Proof.Run.lean ====
/-
  The run of the attention kernel, for any float values: the pipeline's proof data (each output block is the block
  formula at that point's queries, keys and values), the body obligation, and the launch.
-/
module

public import proofs.«01_k».proof.Proof.Block
public import proofs.«01_k».proof.Proof.Printed

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The memory the body works on at point `t`. -/
def mems (t : Fin cfg0.N) : Mems where
  q := win0_0.stage (cfg0.slots t 0)
  k := win0_1.stage (cfg0.slots t 1)
  v := win0_2.stage (cfg0.slots t 2)
  o := win0_3.stage (cfg0.slots t 3)
  n := Memref.whole cc0_scratch0
  m := Memref.whole cc0_scratch1
  l := Memref.whole cc0_scratch2
  a := Memref.whole cc0_scratch3
  s := fun | false => Memref.whole cc0_scratch4 | true => Memref.whole cc0_scratch5

/-- Point `t`'s block of queries, its keys and its values. -/
def qAt (c : Dev nD) (t : Fin cfg0.N) : Vec F S1x4x128x512 .bf16 := iblk m c 0 t
def kAt (c : Dev nD) (t : Fin cfg0.N) : Vec F S1x1x16384x128 .bf16 := iblk m c 1 t
def vAt (c : Dev nD) (t : Fin cfg0.N) : Vec F S1x1x128x16384 .bf16 := iblk m c 2 t

/-- Point `t`'s output block. -/
def outAt (c : Dev nD) (t : Fin cfg0.N) : Vec F S1x512x512 .bf16 :=
  outs.pack (headOut (qAt m c t) (kAt m c t) (vAt m c t) (keyNorm (kAt m c t)))

/-- Between points the scratch holds anything, but within a key head's query blocks the norm buffer holds that head's
    largest key norm. -/
def Φc (c : Dev nD) (t : Fin (cfg0.N + 1)) : sProp 𝕄 := iprop(
  ∃ (n : Vec F S1x1 .f32) (μ l : Vec F S4x1x512 .f32) (a : Vec F S4x128x512 .f32) (s s' : Vec F S4x1024x512 .f32),
    ⌜∀ h : t.val < cfg0.N, t.val % 32 ≠ 0 → n = keyNorm (kAt m c ⟨t.val, h⟩)⌝
    ∗ owns (c : Thread nD τ) (Memref.whole cc0_scratch0) fullShare n ∗ owns (c : Thread nD τ) (Memref.whole cc0_scratch1) fullShare μ
    ∗ owns (c : Thread nD τ) (Memref.whole cc0_scratch2) fullShare l ∗ owns (c : Thread nD τ) (Memref.whole cc0_scratch3) fullShare a
    ∗ owns (c : Thread nD τ) (Memref.whole cc0_scratch4) fullShare s ∗ owns (c : Thread nD τ) (Memref.whole cc0_scratch5) fullShare s'
    ∗ ∃ r, prngReg c r)

/-- The pipeline's proof data: the inputs' blocks stay, the output block ends at its formula. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => outAt m c t
  Φ := Φc m c
  q _ := fullShare
  owed _ := 0

/-! ## The body at a point -/

theorem first_iff : ∀ t : Fin grid0.N, k0_cond1 (grid0.coords t) = 1#1 ↔ t.val % 32 = 0 := by decide +kernel

theorem same_keys : ∀ t : Fin grid0.N, ∀ h : t.val + 1 < grid0.N, (t.val + 1) % 32 ≠ 0 →
    cc0_transform_1 (grid0.coords ⟨t.val + 1, h⟩) = cc0_transform_1 (grid0.coords t) := by decide +kernel

theorem kAt_succ (c : Dev nD) (t : Fin cfg0.N) (h : t.val + 1 < cfg0.N) (hm : (t.val + 1) % 32 ≠ 0) :
    kAt m c ⟨t.val + 1, h⟩ = kAt m c t := by
  have hb : ∀ (f f' : Fin 4 → Nat) (hf : f = f') (hi : ∀ a, (f a + 1) * S1x1x16384x128.size a ≤ S2x2x16384x128.size a)
      (hi' : ∀ a, (f' a + 1) * S1x1x16384x128.size a ≤ S2x2x16384x128.size a) (X : Vec F S2x2x16384x128 .bf16),
      (fun y => X ((Rect.block (s := S2x2x16384x128) S1x1x16384x128.size f hi).emb y))
        = (fun y => X ((Rect.block (s := S2x2x16384x128) S1x1x16384x128.size f' hi').emb y)) := by
    rintro f _ rfl hi hi' X; rfl
  exact hb _ _ (same_keys t h hm) (hinb0_1 _) (hinb0_1 _) (V m c main_v9)

set_option maxHeartbeats 2000000 in
/-- The body at each point, from the windows' blocks and the scratch. -/
theorem body_obligation (c : Dev nD) : BodyObligation (dats m 0 c) (defs₀ (F := F)) Variants.none () Set.univ := fun t => by
  have hp : bodyAt0 (F := F) t = body (mems t) (grid0.coords t) (hstage0_3 ((cfg0.slots t 3).cast nbuf0_3)) :=
    printed (mems t) (grid0.coords t) (hstage0_0 ((cfg0.slots t 0).cast nbuf0_0)) (hstage0_1 ((cfg0.slots t 1).cast nbuf0_1))
      (hstage0_2 ((cfg0.slots t 2).cast nbuf0_2)) (hstage0_3 ((cfg0.slots t 3).cast nbuf0_3)) (Memref.isWhole_whole _)
      (Memref.isWhole_whole _) (Memref.isWhole_whole _) (Memref.isWhole_whole _) (Memref.isWhole_whole _) (Memref.isWhole_whole _)
  rw [show defs₀ (F := F) .tc cfg0.body (cfg0.bodyArgs t (cfg0.slots t)) = bodyAt0 t from rfl, hp]
  rw [bigSep_W0, bigSep_W0]
  rw [show (dats m 0 c).Φ t.castSucc = Φc m c t.castSucc from rfl, show (dats m 0 c).Φ t.succ = Φc m c t.succ from rfl,
    show (dats m 0 c).owesAt () t.succ = (dats m 0 c).owesAt () t.castSucc from rfl]
  unfold Φc
  iintro ⟨⟨%n, %μ, %l, %a, %s, %s', %hn, Hn, Hm, Hl, Ha, Hs, Hs', Hg⟩, Howes, ⟨%d0, H0⟩, ⟨%d1, H1⟩, ⟨%d2, H2⟩, ⟨%d3, H3⟩⟩
  rw [before0_0_of m (dats m 0 c) rfl (fun _ => rfl) t d0, before0_1_of m (dats m 0 c) rfl (fun _ => rfl) t d1,
    before0_2_of m (dats m 0 c) rfl (fun _ => rfl) t d2]
  let st : St F :=
    { q := qAt m c t, k := kAt m c t, v := vAt m c t, o := outs.part ((dats m 0 c).before 3 t d3), n := n, m := rows.part μ
      l := rows.part l, a := accs.part a, s := fun | false => scos.part s | true => scos.part s' }
  have hst : (if k0_cond1 (grid0.coords t) = 1#1 then { st with n := st.norm } else st) = { st with n := keyNorm (kAt m c t) } := by
    split
    · rw [norm_eq]
    · rename_i h
      rw [first_iff] at h
      have : n = keyNorm (kAt m c t) := hn t.isLt h
      show st = _
      exact congrArg (fun f => ({ st with n := f } : St F)) this
  obtain ⟨μ', l', a', σ, hafter⟩ := after_eq ({ st with n := keyNorm (kAt m c t) } : St F)
  have hrun := run_body (c := c) (M := mems t) st (grid0.coords t) (hstage0_3 ((cfg0.slots t 3).cast nbuf0_3))
  rw [hst, hafter] at hrun
  iapply (hrun Set.univ _)
  isplitl [H0 H1 H2 H3 Hn Hm Hl Ha Hs Hs']
  · unfold held
    rw [Parts.pack_part, Parts.pack_part, Parts.pack_part, Parts.pack_part, Parts.pack_part, Parts.pack_part]
    isplitl [H0]; · iexact H0
    isplitl [H1]; · iexact H1
    isplitl [H2]; · iexact H2
    isplitl [H3]; · iexact H3
    isplitl [Hn]; · iexact Hn
    isplitl [Hm]; · iexact Hm
    isplitl [Hl]; · iexact Hl
    isplitl [Ha]; · iexact Ha
    isplitl [Hs]; · iexact Hs
    iexact Hs'
  unfold held
  iintro ⟨H0, H1, H2, H3, Hn, Hm, Hl, Ha, Hs, Hs'⟩
  isplitl [Hn Hm Hl Ha Hs Hs' Hg]
  · iexists keyNorm (kAt m c t), rows.pack μ', rows.pack l', accs.pack a', scos.pack (σ false), scos.pack (σ true)
    isplitr
    · ipureintro
      intro h hm
      exact congrArg keyNorm (kAt_succ m c t h hm).symm
    isplitl [Hn]; · iexact Hn
    isplitl [Hm]; · iexact Hm
    isplitl [Hl]; · iexact Hl
    isplitl [Ha]; · iexact Ha
    isplitl [Hs]; · iexact Hs
    isplitl [Hs']; · iexact Hs'
    iexact Hg
  isplitl [Howes]; · iexact Howes
  isplitl [H0]; · iexact H0
  isplitl [H1]; · iexact H1
  isplitl [H2]; · iexact H2
  iexact H3

/-! ## The launch -/

theorem share_eq (c : Dev nD) (w : Fin cfg0.W) : (dats m 0 c).share w = fullShare := by
  unfold Dat.share; split <;> rfl

theorem scratch_in (c : Dev nD) : Pipeline.ΦA spec0 c ⊢ (dats m 0 c).Φ 0 := by
  rw [show (dats m 0 c).Φ 0 = Φc m c 0 from rfl]
  unfold Pipeline.ΦA Φc
  rw [scopedRest0_eq]
  simp only [owns_whole]
  iintro ⟨⟨⟨%n, Hn⟩, ⟨%μ, Hm⟩, ⟨%l, Hl⟩, ⟨%a, Ha⟩, ⟨%s, Hs⟩, ⟨%s', Hs'⟩⟩, Hg⟩
  iexists n, μ, l, a, s, s'
  isplitr
  · ipureintro
    intro _ h
    exact absurd rfl h
  isplitl [Hn]; · iexact Hn
  isplitl [Hm]; · iexact Hm
  isplitl [Hl]; · iexact Hl
  isplitl [Ha]; · iexact Ha
  isplitl [Hs]; · iexact Hs
  isplitl [Hs']; · iexact Hs'
  iexact Hg

theorem scratch_out (c : Dev nD) : (dats m 0 c).Φ (Fin.last cfg0.N) ⊢ Pipeline.ΦA spec0 c := by
  rw [show (dats m 0 c).Φ (Fin.last cfg0.N) = Φc m c (Fin.last cfg0.N) from rfl]
  unfold Pipeline.ΦA Φc
  rw [scopedRest0_eq]
  simp only [owns_whole]
  iintro ⟨%n, %μ, %l, %a, %s, %s', -, Hn, Hm, Hl, Ha, Hs, Hs', Hg⟩
  isplitr [Hg]
  · isplitl [Hn]; · iexists n; iexact Hn
    isplitl [Hm]; · iexists μ; iexact Hm
    isplitl [Hl]; · iexists l; iexact Hl
    isplitl [Ha]; · iexists a; iexact Ha
    isplitl [Hs]; · iexists s; iexact Hs
    iexists s'; iexact Hs'
  iexact Hg

/-- The pipeline's run: every array ends at what the proof data computes, every other buffer as the region found it,
    every semaphore counter at zero. -/
theorem run_region : θ_run defs (onTc (τ := τ) (main (F := F))) (s₀ m ρ)
    (fun r => Pipeline.FramePost cfgs (dats m) 0 (V m) r ∧ r.2.sem = fun _ => 0) :=
  Pipeline.θ_run_frame_track cfgs (dats m) 0 launch0 defs₀ Variants.none m ρ main
    (hbody := fun c => (body_obligation m c).loose) (hshare := share_eq m) (howed := fun _ _ => rfl) (V := V m)
    (hmain := hmain m Variants.none) (hA := fun _ _ => rfl) (hin := scratch_in m) (hout := scratch_out m) (Q' := fun r => Pipeline.FramePost cfgs (dats m) 0 (V m) r ∧ r.2.sem = fun _ => 0) (hQ' := fun _ h => h)

/-- Every execution ends with the output array at its blocks, the arguments unchanged and every counter at zero. -/
theorem run_main : θ_run defs (onTc (τ := τ) (main (F := F))) ⟨m, fun _ => 0, ρ⟩ (fun r =>
    (∀ c : Dev nD, r.2.mem ((c.tc : Thread nD τ).loc main_v12) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run defs _ _).mono (fun _ h => ⟨fun c => ⟨(h.1 c).1 3,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_region m ρ)

end Cert.Attn

end
-- ==== Proof.Frames.lean ====
/-
  The three frame claims: the kernel's and its idealization's from one run (the two programs have the same text), the
  reference's from its run as a list of host operations.
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Attn

open Idealize.ShloMosaic Idealize.ShloMosaic.TcCoe Idealize.SL.Sem

/-- What a frame says of the final state, read off the run. -/
theorem frame_run {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => (h.1 c).2, h.2⟩) (run_main m ρ)

/-- The kernel and its idealization have the same body table. -/
theorem defs₀_eq : Cert.Kernel.defs₀ (F := Bits) = Cert.KernelIdeal.defs₀ (F := Bits) := by
  refine congrArg Defs.onTc (funext fun l => ?_)
  match l with
  | ⟨0, _⟩ => exact funext fun a => rfl
  | ⟨_ + 1, h⟩ => exact absurd h (Nat.not_lt.2 (Nat.le_add_left _ _))
theorem defs_eq : Cert.Kernel.defs (F := Bits) = Cert.KernelIdeal.defs (F := Bits) :=
  congrArg (Pipeline.defs Cert.KernelIdeal.pcfgs) defs₀_eq

/-- The kernel's frame: it runs, leaves its arguments unchanged and every semaphore counter at zero. -/
theorem frame_kernel : Cert.quiescent_Kernel (hKernel := Cert.Kernel.Gen.facts) := fun m ρ _ => by
  rw [defs_eq]; exact frame_run (F := Bits) m ρ

/-- The idealization's frame. -/
theorem frame_ideal : Cert.quiescent_KernelIdeal (hKernelIdeal := Cert.KernelIdeal.Gen.facts) := fun m ρ _ => frame_run (F := Ideal) m ρ

/-- The reference's frame: it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Attn

end
-- ==== Proof.Inputs.lean ====
/-
  The region's three operands at an index: the host's layout of the queries (scaled), the keys and the values.
-/
module

public import proofs.«01_k».proof.Proof.Run
public import Idealize.ShloMosaic.Lib.Pointwise

@[expose] public section

noncomputable section

namespace Cert.Attn

open Idealize.ShloMosaic Cert.KernelIdeal Cert.KernelIdeal.Gen Idealize.ShloMosaic.StableHlo

variable (m : (ℓ : Loc nD τ sig) → Buf (Elt Ideal) ℓ)

/-- The arguments as vectors. -/
abbrev argAt0 (c : Dev nD) : FVec Ideal S2x16384x8x128 .f32 := m ((c.tc : Thread nD τ).loc main_arg0)
abbrev argAt1 (c : Dev nD) : FVec Ideal S2x16384x2x128 .f32 := m ((c.tc : Thread nD τ).loc main_arg1)
abbrev argAt2 (c : Dev nD) : FVec Ideal S2x16384x2x128 .f32 := m ((c.tc : Thread nD τ).loc main_arg2)

/-- The queries' array, as the host's operations make it. -/
theorem queries_eq (c : Dev nD) : (V m c main_v7 : FVec Ideal S2x8x128x16384 .bf16) = truncf (φ := .f32) .bf16 (transpose S2x8x128x16384 [0, 2, 3, 1] (mulf (argAt0 m c) (broadcastInDim S2x16384x8x128 ![] bcast_S_S2x16384x8x128 (Host.divf (constant S_ .f32 0x3F800000#32) (mulf (Host.log (constant S_ .f32 0x40000000#32)) (Host.sqrt (constant S_ .f32 0x43000000#32)))))) transposes_S2x16384x8x128_S2x8x128x16384_0_2_3_1) bitsLt_bf16_f32 := by
  unfold V
  after_results <;> rfl
/-- The keys' array. -/
theorem keys_eq (c : Dev nD) : (V m c main_v9 : FVec Ideal S2x2x16384x128 .bf16) = truncf (φ := .f32) .bf16 (transpose S2x2x16384x128 [0, 2, 1, 3] (argAt1 m c) transposes_S2x16384x2x128_S2x2x16384x128_0_2_1_3) bitsLt_bf16_f32 := by
  unfold V
  after_results <;> rfl
/-- The values' array. -/
theorem values_eq (c : Dev nD) : (V m c main_v11 : FVec Ideal S2x2x128x16384 .bf16) = truncf (φ := .f32) .bf16 (transpose S2x2x128x16384 [0, 2, 3, 1] (argAt2 m c) transposes_S2x16384x2x128_S2x2x128x16384_0_2_3_1) bitsLt_bf16_f32 := by
  unfold V
  after_results <;> rfl

end Cert.Attn

end
-- ==== Proof.Blocks.lean ====
/-
  The blocks of point `t = 64 b + 32 h + i`: query rows `512 i ..` of batch element `b` and key head `h`, that head's keys
  and values, and the output rows and columns they make.
-/
module

public import proofs.«01_k».proof.Proof.Inputs

@[expose] public section

noncomputable section

namespace Cert.Attn

open Idealize.ShloMosaic Cert.KernelIdeal Cert.KernelIdeal.Gen

theorem blk_q : ∀ t : Fin grid0.N, cc0_transform_0 (grid0.coords t) = ![t.val / 64, t.val / 32 % 2, 0, t.val % 32] := by
  decide +kernel
theorem blk_k : ∀ t : Fin grid0.N, cc0_transform_1 (grid0.coords t) = ![t.val / 64, t.val / 32 % 2, 0, 0] := by
  decide +kernel
theorem blk_v : ∀ t : Fin grid0.N, cc0_transform_2 (grid0.coords t) = ![t.val / 64, t.val / 32 % 2, 0, 0] := by
  decide +kernel
theorem blk_o : ∀ t : Fin grid0.N, cc0_transform_3 (grid0.coords t) = ![t.val / 64, t.val % 32, t.val / 32 % 2] := by
  decide +kernel

/-- A point's batch element, key head and block of queries. -/
def batchOf (t : Fin grid0.N) : Fin 2 := ⟨t.val / 64, by have h : t.val < 128 := t.isLt; omega⟩
def headOf (t : Fin grid0.N) : Fin 2 := ⟨t.val / 32 % 2, by omega⟩
/-- A point's `x`-th query. -/
def rowOf (t : Fin grid0.N) (x : Fin 512) : Fin 16384 := ⟨512 * (t.val % 32) + x.val, by have := x.isLt; omega⟩
/-- The query head of group member `g` of key head `h`. -/
def qhead (h : Fin 2) (g : Fin 4) : Fin 8 := ⟨4 * h.val + g.val, by omega⟩
/-- Channel `d` of that query head in the output. -/
def channel (h : Fin 2) (g : Fin 4) (d : Fin 128) : Fin 1024 := ⟨512 * h.val + 128 * g.val + d.val, by omega⟩

theorem emb_q (t : Fin grid0.N) (f : Fin 4 → Nat) (hf : f = ![t.val / 64, t.val / 32 % 2, 0, t.val % 32])
    (inb : ∀ a, (f a + 1) * S1x4x128x512.size a ≤ S2x8x128x16384.size a) (g : Fin 4) (d : Fin 128) (x : Fin 512) :
    (Rect.block (s := S2x8x128x16384) S1x4x128x512.size f inb).emb (ix4 (0 : Fin 1) g d x)
      = ix4 (batchOf t) (qhead (headOf t) g) d (rowOf t x) := by
  subst hf
  funext a
  fin_cases a
  · refine Fin.ext ?_
    show t.val / 64 * 1 + 1 * 0 = t.val / 64
    omega
  · refine Fin.ext ?_
    show t.val / 32 % 2 * 4 + 1 * g.val = 4 * (t.val / 32 % 2) + g.val
    omega
  · refine Fin.ext ?_
    show 0 * 128 + 1 * d.val = d.val
    omega
  · refine Fin.ext ?_
    show t.val % 32 * 512 + 1 * x.val = 512 * (t.val % 32) + x.val
    omega

theorem emb_k (t : Fin grid0.N) (f : Fin 4 → Nat) (hf : f = ![t.val / 64, t.val / 32 % 2, 0, 0])
    (inb : ∀ a, (f a + 1) * S1x1x16384x128.size a ≤ S2x2x16384x128.size a) (j : Fin 16384) (d : Fin 128) :
    (Rect.block (s := S2x2x16384x128) S1x1x16384x128.size f inb).emb (ix4 (0 : Fin 1) (0 : Fin 1) j d)
      = ix4 (batchOf t) (headOf t) j d := by
  subst hf
  funext a
  fin_cases a
  · refine Fin.ext ?_
    show t.val / 64 * 1 + 1 * 0 = t.val / 64
    omega
  · refine Fin.ext ?_
    show t.val / 32 % 2 * 1 + 1 * 0 = t.val / 32 % 2
    omega
  · refine Fin.ext ?_
    show 0 * 16384 + 1 * j.val = j.val
    omega
  · refine Fin.ext ?_
    show 0 * 128 + 1 * d.val = d.val
    omega

theorem emb_v (t : Fin grid0.N) (f : Fin 4 → Nat) (hf : f = ![t.val / 64, t.val / 32 % 2, 0, 0])
    (inb : ∀ a, (f a + 1) * S1x1x128x16384.size a ≤ S2x2x128x16384.size a) (d : Fin 128) (j : Fin 16384) :
    (Rect.block (s := S2x2x128x16384) S1x1x128x16384.size f inb).emb (ix4 (0 : Fin 1) (0 : Fin 1) d j)
      = ix4 (batchOf t) (headOf t) d j := by
  subst hf
  funext a
  fin_cases a
  · refine Fin.ext ?_
    show t.val / 64 * 1 + 1 * 0 = t.val / 64
    omega
  · refine Fin.ext ?_
    show t.val / 32 % 2 * 1 + 1 * 0 = t.val / 32 % 2
    omega
  · refine Fin.ext ?_
    show 0 * 128 + 1 * d.val = d.val
    omega
  · refine Fin.ext ?_
    show 0 * 16384 + 1 * j.val = j.val
    omega

theorem emb_o (t : Fin grid0.N) (f : Fin 3 → Nat) (hf : f = ![t.val / 64, t.val % 32, t.val / 32 % 2])
    (inb : ∀ a, (f a + 1) * S1x512x512.size a ≤ S2x16384x1024.size a) (x : Fin 512) (g : Fin 4) (d : Fin 128) :
    (Rect.block (s := S2x16384x1024) S1x512x512.size f inb).emb (outs.put g (ix3 (0 : Fin 1) x d))
      = ix3 (batchOf t) (rowOf t x) (channel (headOf t) g d) := by
  subst hf
  funext a
  fin_cases a
  · refine Fin.ext ?_
    show t.val / 64 * 1 + 1 * 0 = t.val / 64
    omega
  · refine Fin.ext ?_
    show t.val % 32 * 512 + 1 * x.val = 512 * (t.val % 32) + x.val
    omega
  · refine Fin.ext ?_
    show t.val / 32 % 2 * 512 + 1 * (128 * g.val + d.val) = 512 * (t.val / 32 % 2) + 128 * g.val + d.val
    omega

variable (m : (ℓ : Loc nD τ sig) → Buf (Elt Ideal) ℓ)

/-- A query of the point, scaled. -/
theorem qAt_at (c : Dev nD) (t : Fin grid0.N) (g : Fin 4) (d : Fin 128) (x : Fin 512) :
    qAt m c t (ix4 0 g d x) = argAt0 m c (ix4 (batchOf t) (rowOf t x) (qhead (headOf t) g) d)
      * Ideal.div (Ideal.ofBits .f32 0x3F800000#32)
          (Ideal.log (Ideal.ofBits .f32 0x40000000#32) * Ideal.sqrt (Ideal.ofBits .f32 0x43000000#32)) := by
  have h : qAt m c t (ix4 0 g d x) = (V m c main_v7 : FVec Ideal S2x8x128x16384 .bf16)
      ((Rect.block (s := S2x8x128x16384) S1x4x128x512.size (cc0_transform_0 (grid0.coords t)) (hinb0_0 _)).emb
        (ix4 (0 : Fin 1) g d x)) := rfl
  rw [h, emb_q t _ (blk_q t), queries_eq]
  generalize argAt0 m c = q
  pointwise

/-- A key of the point. -/
theorem kAt_at (c : Dev nD) (t : Fin grid0.N) (j : Fin 16384) (d : Fin 128) :
    kAt m c t (ix4 0 0 j d) = argAt1 m c (ix4 (batchOf t) j (headOf t) d) := by
  have h : kAt m c t (ix4 0 0 j d) = (V m c main_v9 : FVec Ideal S2x2x16384x128 .bf16)
      ((Rect.block (s := S2x2x16384x128) S1x1x16384x128.size (cc0_transform_1 (grid0.coords t)) (hinb0_1 _)).emb
        (ix4 (0 : Fin 1) (0 : Fin 1) j d)) := rfl
  rw [h, emb_k t _ (blk_k t), keys_eq]
  generalize argAt1 m c = k
  pointwise

/-- A value of the point. -/
theorem vAt_at (c : Dev nD) (t : Fin grid0.N) (d : Fin 128) (j : Fin 16384) :
    vAt m c t (ix4 0 0 d j) = argAt2 m c (ix4 (batchOf t) j (headOf t) d) := by
  have h : vAt m c t (ix4 0 0 d j) = (V m c main_v11 : FVec Ideal S2x2x128x16384 .bf16)
      ((Rect.block (s := S2x2x128x16384) S1x1x128x16384.size (cc0_transform_2 (grid0.coords t)) (hinb0_2 _)).emb
        (ix4 (0 : Fin 1) (0 : Fin 1) d j)) := rfl
  rw [h, emb_v t _ (blk_v t), values_eq]
  generalize argAt2 m c = v
  pointwise

end Cert.Attn

end
-- ==== Proof.Payload.lean ====
module

public import proofs.«01_k».proof.Proof.Block
public import Idealize.ShloMosaic.Lib.Pointwise

@[expose] public section

noncomputable section

namespace Cert.Attn

open Idealize.ShloMosaic Cert.KernelIdeal Cert.KernelIdeal.Gen

/-! The block payloads over the extended reals, read at one query and one key or channel. -/

/-- The word that denotes minus infinity. -/
theorem word_bot : Ideal.ofBits .f32 0xFF800000#32 = ⊥ := by simp [Ideal.ofBits, Ideal.ieee]

/-- A score is the product of a key row and a query column. -/
theorem pay_scores (kb : Vec Ideal S1x1x1024x128 .bf16) (q : Vec Ideal S1x1x128x512 .bf16) (r : Fin 1024) (c : Fin 512) :
    k0_pay5 kb q (ix3 0 r c) = ∑ d : Fin 128, kb (ix4 0 0 r d) * q (ix4 0 0 d c) := by
  pointwise [k0_pay5, k0_pay4, dot_S1024x128_S128x512_S1024x512_1_0_0_1_n_n]

/-- A weight of the fixed-shift branch. -/
theorem pay_weight (s : Vec Ideal S1x1024x512 .f32) (m : Vec Ideal S1x1x512 .f32) (r : Fin 1024) (c : Fin 512) :
    k0_pay17 s m (ix2 r c) = Ideal.exp2 (s (ix3 0 r c) - m (ix3 0 0 c)) := by
  pointwise [k0_pay17]
  rfl

/-- The running denominator of the fixed-shift branch. -/
theorem pay_denominator (s : Vec Ideal S1x1024x512 .f32) (m l : Vec Ideal S1x1x512 .f32) (c : Fin 512) :
    k0_pay18 s m l (ix3 0 0 c)
      = l (ix3 0 0 c) + ∑ r : Fin 1024, Ideal.exp2 (s (ix3 0 r c) - m (ix3 0 0 c)) := by
  pointwise [k0_pay18, pay_weight]

/-- The running numerator of the fixed-shift branch. -/
theorem pay_numerator (vb : Vec Ideal S1x1x128x1024 .bf16) (s : Vec Ideal S1x1024x512 .f32) (m : Vec Ideal S1x1x512 .f32)
    (a : Vec Ideal S1x128x512 .f32) (d : Fin 128) (c : Fin 512) :
    k0_pay19 (k0_pay16 vb) (k0_pay17 s m) a (ix3 0 d c)
      = a (ix3 0 d c) + ∑ r : Fin 1024, vb (ix4 0 0 d r) * Ideal.exp2 (s (ix3 0 r c) - m (ix3 0 0 c)) := by
  pointwise [k0_pay19, k0_pay16, pay_weight]

/-- The quotient that is stored. -/
theorem pay_quotient (a : Vec Ideal S1x128x512 .f32) (l : Vec Ideal S1x1x512 .f32) (d : Fin 128) (c : Fin 512) :
    k0_pay389 a l (ix3 0 c d) = Ideal.div (a (ix3 0 d c)) (l (ix3 0 0 c)) := by
  pointwise [k0_pay389]

/-- The scores of the running-maximum branch are the same products. -/
theorem pay_scores' (kb : Vec Ideal S1x1x1024x128 .bf16) (q : Vec Ideal S1x1x128x512 .bf16) (r : Fin 1024) (c : Fin 512) :
    k0_pay340 kb q (ix2 r c) = ∑ d : Fin 128, kb (ix4 0 0 r d) * q (ix4 0 0 d c) := by
  pointwise [k0_pay340, k0_pay338]

/-- The running maximum. -/
theorem pay_max (kb : Vec Ideal S1x1x1024x128 .bf16) (q : Vec Ideal S1x1x128x512 .bf16) (m : Vec Ideal S1x1x512 .f32)
    (c : Fin 512) :
    k0_pay342 kb q m (ix2 0 c) = max (m (ix3 0 0 c))
      (Finset.univ.fold max (⊥ : EReal) fun r : Fin 1024 => ∑ d : Fin 128, kb (ix4 0 0 r d) * q (ix4 0 0 d c)) := by
  pointwise [k0_pay342, k0_pay341, pay_scores', word_bot]

/-- The factor that moves the sums to the new maximum. -/
theorem pay_factor (kb : Vec Ideal S1x1x1024x128 .bf16) (q : Vec Ideal S1x1x128x512 .bf16) (m : Vec Ideal S1x1x512 .f32)
    (c : Fin 512) :
    k0_pay343 kb q m (ix2 0 c) = Ideal.exp2 (m (ix3 0 0 c) - k0_pay342 kb q m (ix2 0 c)) := by
  pointwise [k0_pay343, k0_pay341]
  rfl

/-- A weight of the running-maximum branch. -/
theorem pay_weight' (kb : Vec Ideal S1x1x1024x128 .bf16) (q : Vec Ideal S1x1x128x512 .bf16) (m : Vec Ideal S1x1x512 .f32)
    (r : Fin 1024) (c : Fin 512) :
    k0_pay344 kb q m (ix2 r c)
      = Ideal.exp2 ((∑ d : Fin 128, kb (ix4 0 0 r d) * q (ix4 0 0 d c)) - k0_pay342 kb q m (ix2 0 c)) := by
  pointwise [k0_pay344, pay_scores']
  rfl

/-- The running denominator of the running-maximum branch. -/
theorem pay_denominator' (kb : Vec Ideal S1x1x1024x128 .bf16) (q : Vec Ideal S1x1x128x512 .bf16)
    (m l : Vec Ideal S1x1x512 .f32) (c : Fin 512) :
    k0_pay345 kb q m l (ix3 0 0 c) = k0_pay343 kb q m (ix2 0 c) * l (ix3 0 0 c)
      + ∑ r : Fin 1024, k0_pay344 kb q m (ix2 r c) := by
  pointwise [k0_pay345]

/-- The running numerator of the running-maximum branch. -/
theorem pay_numerator' (vb : Vec Ideal S1x1x128x1024 .bf16) (f : FVec Ideal S1x512 .f32) (p : FVec Ideal S1024x512 .f32)
    (a : Vec Ideal S1x128x512 .f32) (d : Fin 128) (c : Fin 512) :
    k0_pay346 (k0_pay339 vb) f p a (ix3 0 d c) = f (ix2 0 c) * a (ix3 0 d c)
      + ∑ r : Fin 1024, vb (ix4 0 0 d r) * p (ix2 r c) := by
  pointwise [k0_pay346, k0_pay339]

/-- The stored maximum. -/
theorem pay_keep (m : FVec Ideal S1x512 .f32) (c : Fin 512) : k0_pay347 m (ix3 0 0 c) = m (ix2 0 c) := by
  pointwise [k0_pay347]

/-- The largest squared norm so far of the keys of one row. -/
theorem pay_norm (n : FVec Ideal S1024x1 .f32) (kb : Vec Ideal S1x1x1024x128 .bf16) (r : Fin 1024) :
    k0_pay373 n kb (ix2 r 0) = max (n (ix2 r 0)) (∑ d : Fin 128, kb (ix4 0 0 r d) * kb (ix4 0 0 r d)) := by
  pointwise [k0_pay373]

/-- The search for the largest norm starts from zero. -/
theorem pay_norm_zero (r : Fin 1024) : k0_pay372 (F := Ideal) (ix2 r 0) = 0 := by
  pointwise [k0_pay372]

/-- The largest squared norm of all rows. -/
theorem pay_norm_max (n : FVec Ideal S1024x1 .f32) :
    k0_pay374 n (ix2 0 0) = Finset.univ.fold max (⊥ : EReal) fun r : Fin 1024 => n (ix2 r 0) := by
  pointwise [k0_pay374, word_bot]

/-- The bound of one query's scores. -/
theorem pay_shift (q : Vec Ideal S1x1x128x512 .bf16) (n : Vec Ideal S1x1 .f32) (c : Fin 512) :
    k0_pay375 q n (ix3 0 0 c) = Ideal.sqrt ((∑ d : Fin 128, q (ix4 0 0 d c) * q (ix4 0 0 d c)) * n (ix2 0 0)) := by
  pointwise [k0_pay375]

/-- The test for the fixed shift bounds every query's shift by 60. -/
theorem safe_le (m : Vec Ideal S4x1x512 .f32) (h : safe m = 1#1) (g : Fin 4) (c : Fin 512) :
    m (ix3 g 0 c) ≤ ((60 : ℝ) : EReal) := by
  have h60 : Ideal.ofBits .f32 0x42700000#32 = ((60 : ℝ) : EReal) := by
    simp [Ideal.ofBits, Ideal.ieee, -EReal.coe_mul]; norm_num
  have hle : k0_pay382 m ≤ ((60 : ℝ) : EReal) := by
    rw [← h60]
    unfold safe at h
    by_contra hn
    simp [Ideal.cmp, hn] at h
  unfold k0_pay382 at hle
  pointwise at hle
  have := (Finset.fold_max_le _).1 hle
  exact this.2 (ix4 0 g 0 c) (Finset.mem_filter.2 ⟨Finset.mem_univ _, funext fun a => by fin_cases a; exact Subsingleton.elim (α := Fin 1) _ _⟩)

end Cert.Attn

end
-- ==== Proof.Softmax.lean ====
/-
  The arithmetic of a softmax average over the extended reals: scores are real, values are any extended reals.
-/
module

public import Idealize.ShloMosaic.PureOps.Ideal

@[expose] public section

noncomputable section

namespace Cert.Attn

open Idealize.ShloMosaic

/-- The weight of a score `x` against a shift `y`, to the base 2. -/
def wt (x y : ℝ) : ℝ := (2 : ℝ) ^ (x - y)

theorem wt_pos (x y : ℝ) : 0 < wt x y := Real.rpow_pos_of_pos two_pos _

/-- Moving the shift from `y` to `z` multiplies a weight by the weight of `y` against `z`. -/
theorem wt_mul (x y z : ℝ) : wt x y * wt y z = wt x z := by
  unfold wt; rw [← Real.rpow_add two_pos]; congr 1; ring

/-- The ideal power of two of a difference of reals is the weight. -/
theorem exp2_sub (x y : ℝ) : Ideal.exp2 ((x : EReal) - (y : EReal)) = (wt x y : EReal) := by
  rw [← EReal.coe_sub]; rfl

/-- A finite sum of reals, taken in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes into a sum of extended reals. -/
theorem coe_mul_sum {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih => rw [Finset.sum_insert ha, Finset.sum_insert ha, EReal.left_distrib_of_nonneg_of_ne_top (EReal.coe_nonneg.2 hc) (EReal.coe_ne_top c), ih]

/-- The sum of the first `n` weights. -/
def den (t : ℕ → ℝ) (μ : ℝ) (n : ℕ) : EReal := ∑ i ∈ Finset.range n, (wt (t i) μ : EReal)
/-- The weighted sum of the first `n` values. -/
def num (t : ℕ → ℝ) (v : ℕ → EReal) (μ : ℝ) (n : ℕ) : EReal := ∑ i ∈ Finset.range n, v i * (wt (t i) μ : EReal)

theorem den_add (t : ℕ → ℝ) (μ : ℝ) (n b : ℕ) :
    den t μ (n + b) = den t μ n + ∑ r : Fin b, (wt (t (n + r.val)) μ : EReal) := by
  unfold den
  rw [Finset.sum_range_add, Finset.sum_range fun x => (wt (t (n + x)) μ : EReal)]

theorem num_add (t : ℕ → ℝ) (v : ℕ → EReal) (μ : ℝ) (n b : ℕ) :
    num t v μ (n + b) = num t v μ n + ∑ r : Fin b, v (n + r.val) * (wt (t (n + r.val)) μ : EReal) := by
  unfold num
  rw [Finset.sum_range_add, Finset.sum_range fun x => v (n + x) * (wt (t (n + x)) μ : EReal)]

/-- Changing the shift of a denominator. -/
theorem den_shift (t : ℕ → ℝ) (μ ν : ℝ) (n : ℕ) : (wt μ ν : EReal) * den t μ n = den t ν n := by
  unfold den
  rw [coe_mul_sum _ _ (wt_pos _ _).le]
  refine Finset.sum_congr rfl fun i _ => ?_
  rw [← EReal.coe_mul, mul_comm, wt_mul]

/-- Changing the shift of a numerator. -/
theorem num_shift (t : ℕ → ℝ) (v : ℕ → EReal) (μ ν : ℝ) (n : ℕ) : (wt μ ν : EReal) * num t v μ n = num t v ν n := by
  unfold num
  rw [coe_mul_sum _ _ (wt_pos _ _).le]
  refine Finset.sum_congr rfl fun i _ => ?_
  rw [mul_left_comm, ← EReal.coe_mul, mul_comm (wt μ ν), wt_mul]

/-- A weight's share of the sum is the exponential's share, whatever the shifts. -/
theorem weight_share_eq (t : ℕ → ℝ) (μ M : ℝ) (n i : ℕ) :
    wt (t i) μ * (1 / ∑ j ∈ Finset.range n, wt (t j) μ)
      = Real.exp (t i * Real.log 2 - M) * (1 / ∑ j ∈ Finset.range n, Real.exp (t j * Real.log 2 - M)) := by
  have h : ∀ x, wt x μ = Real.exp (M - μ * Real.log 2) * Real.exp (x * Real.log 2 - M) := fun x => by
    unfold wt; rw [Real.rpow_def_of_pos two_pos, ← Real.exp_add]; congr 1; ring
  simp only [h, ← Finset.mul_sum]
  have := (Real.exp_pos (M - μ * Real.log 2)).ne'
  rw [one_div, mul_inv, one_div]
  field_simp

/-- The quotient of the weighted sum by the sum of the weights is the average of the values by their exponentials'
    shares, whatever the two shifts. -/
theorem quotient_eq (t : ℕ → ℝ) (v : ℕ → EReal) (μ M : ℝ) (n : ℕ) (hn : 0 < n) :
    Ideal.div (num t v μ n) (den t μ n)
      = ∑ i ∈ Finset.range n, Ideal.div (Ideal.exp ((t i * Real.log 2 : ℝ) - (M : EReal)))
          (∑ j ∈ Finset.range n, Ideal.exp ((t j * Real.log 2 : ℝ) - (M : EReal))) * v i := by
  have he : ∀ j, Ideal.exp ((t j * Real.log 2 : ℝ) - (M : EReal)) = (Real.exp (t j * Real.log 2 - M) : EReal) := fun j => by
    rw [← EReal.coe_sub]; rfl
  have hne : (Finset.range n).Nonempty := ⟨0, Finset.mem_range.2 hn⟩
  have hW : (∑ j ∈ Finset.range n, wt (t j) μ) ≠ 0 := (Finset.sum_pos (fun j _ => wt_pos _ _) hne).ne'
  have hE : (∑ j ∈ Finset.range n, Real.exp (t j * Real.log 2 - M)) ≠ 0 := (Finset.sum_pos (fun j _ => Real.exp_pos _) hne).ne'
  simp only [he]
  rw [← coe_sum]
  unfold den num
  rw [← coe_sum, Ideal.div_coe hW, mul_comm,
    coe_mul_sum _ _ (by have := Finset.sum_pos (fun j (_ : j ∈ Finset.range n) => wt_pos (t j) μ) hne; positivity)]
  refine Finset.sum_congr rfl fun i _ => ?_
  rw [Ideal.div_coe hE, mul_left_comm, ← EReal.coe_mul, ← EReal.coe_mul, ← weight_share_eq t μ M, mul_comm, mul_comm (1 / _)]

/-- The largest of finitely many reals and a real, in the extended reals, is a real. -/
theorem fold_max_real {n : ℕ} (f : Fin n → ℝ) (x : ℝ) :
    ∃ y : ℝ, max (x : EReal) (Finset.univ.fold max (⊥ : EReal) fun r => (f r : EReal)) = (y : EReal) := by
  have h1 : max (x : EReal) (Finset.univ.fold max (⊥ : EReal) fun r => (f r : EReal)) ≠ ⊤ := by
    refine ne_of_lt (max_lt (EReal.coe_lt_top x) ((Finset.fold_max_lt _).2 ⟨bot_lt_top, fun r _ => EReal.coe_lt_top _⟩))
  have h2 : max (x : EReal) (Finset.univ.fold max (⊥ : EReal) fun r => (f r : EReal)) ≠ ⊥ :=
    ne_of_gt (lt_of_lt_of_le (EReal.bot_lt_coe x) (le_max_left _ _))
  exact ⟨_, (EReal.coe_toReal h1 h2).symm⟩

end Cert.Attn

end
-- ==== Proof.Head.lean ====
/-
  One query's output in one channel, of the block formula over the extended reals: with real queries and keys it is the
  weighted sum of the values over the sum of the weights, under some real shift. Both branches give that quotient.
-/
module

public import proofs.«01_k».proof.Proof.Payload
public import proofs.«01_k».proof.Proof.Softmax

@[expose] public section

noncomputable section

namespace Cert.Attn

open Idealize.ShloMosaic Cert.KernelIdeal Cert.KernelIdeal.Gen

/-! ## Blocks at an index -/

/-- Row `r` of key block `n`. -/
theorem keyBlock_at (k : Vec Ideal S1x1x16384x128 .bf16) (n : ℕ) (hn : n < 16) (r : Fin 1024) (d : Fin 128) :
    keyBlock k (Fin.ofNat 16 n) (ix4 0 0 r d) = k (ix4 0 0 (Fin.ofNat 16384 (1024 * n + r.val)) d) := by
  refine congrArg k (funext fun a => ?_)
  fin_cases a
  · rfl
  · rfl
  · refine Fin.ext ?_
    show 1024 * (n % 16) + 1 * r.val = (1024 * n + r.val) % 16384
    have := r.isLt; omega
  · refine Fin.ext ?_
    show 0 + 1 * d.val = d.val
    omega

/-- Column `r` of value block `n`. -/
theorem valBlock_at (v : Vec Ideal S1x1x128x16384 .bf16) (n : ℕ) (hn : n < 16) (d : Fin 128) (r : Fin 1024) :
    valBlock v (Fin.ofNat 16 n) (ix4 0 0 d r) = v (ix4 0 0 d (Fin.ofNat 16384 (1024 * n + r.val))) := by
  refine congrArg v (funext fun a => ?_)
  fin_cases a
  · rfl
  · rfl
  · refine Fin.ext ?_
    show 0 + 1 * d.val = d.val
    omega
  · refine Fin.ext ?_
    show 1024 * (n % 16) + 1 * r.val = (1024 * n + r.val) % 16384
    have := r.isLt; omega

/-- Head `g`'s query `c`. -/
theorem qHead_at (q : Vec Ideal S1x4x128x512 .bf16) (g : Fin 4) (d : Fin 128) (c : Fin 512) :
    qHead q g (ix4 0 0 d c) = q (ix4 0 g d c) := by
  refine congrArg q (funext fun a => ?_)
  fin_cases a
  · rfl
  · refine Fin.ext ?_
    show g.val + 1 * 0 = g.val
    omega
  · refine Fin.ext ?_
    show 0 + 1 * d.val = d.val
    omega
  · refine Fin.ext ?_
    show 0 + 1 * c.val = c.val
    omega

/-- The denominators start from zero. -/
theorem zeroL_at (g : Fin 4) (c : Fin 512) : zeroL (F := Ideal) g (ix3 0 0 c) = 0 := by
  show k0_pay379 (F := Ideal) (rows.put g (ix3 0 0 c)) = 0
  pointwise [k0_pay379]

/-- The numerators start from zero. -/
theorem zeroA_at (g : Fin 4) (d : Fin 128) (c : Fin 512) : zeroA (F := Ideal) g (ix3 0 d c) = 0 := by
  show k0_pay381 (k0_pay380 (F := Ideal)) (accs.put g (ix3 0 d c)) = 0
  pointwise [k0_pay380, k0_pay381]

/-- The running maximum starts from a real. -/
theorem lowM_at (g : Fin 4) (c : Fin 512) : ∃ x : ℝ, lowM (F := Ideal) g (ix3 0 0 c) = (x : EReal) := by
  have h : lowM (F := Ideal) g (ix3 0 0 c) = Ideal.ofBits .f32 0xF149F2CA#32 := by
    show k0_pay385 (F := Ideal) (rows.put g (ix3 0 0 c)) = _
    pointwise [k0_pay385]
  rw [h]
  simp only [Ideal.ofBits, Ideal.ieee]
  simp [-EReal.coe_mul]
  exact ⟨_, rfl⟩

/-! ## Real queries and keys -/

variable (q : Vec Ideal S1x4x128x512 .bf16) (k : Vec Ideal S1x1x16384x128 .bf16) (v : Vec Ideal S1x1x128x16384 .bf16)
variable (qr : Fin 4 → Fin 128 → Fin 512 → ℝ) (kr : Fin 16384 → Fin 128 → ℝ)

/-- The score of head `g`'s query `c` against key `i`. -/
def score (g : Fin 4) (c : Fin 512) (i : ℕ) : ℝ := ∑ d : Fin 128, kr (Fin.ofNat 16384 i) d * qr g d c
/-- Channel `d` of value `i`. -/
def value (d : Fin 128) (i : ℕ) : EReal := v (ix4 0 0 d (Fin.ofNat 16384 i))

variable {q k v qr kr}
variable (hq : ∀ g d c, q (ix4 0 g d c) = (qr g d c : EReal)) (hk : ∀ j d, k (ix4 0 0 j d) = (kr j d : EReal))
include hq hk

/-- A block's products are the scores. -/
theorem products_at (g : Fin 4) (c : Fin 512) (n : ℕ) (hn : n < 16) (r : Fin 1024) :
    ∑ d : Fin 128, keyBlock k (Fin.ofNat 16 n) (ix4 0 0 r d) * qHead q g (ix4 0 0 d c)
      = (score qr kr g c (1024 * n + r.val) : EReal) := by
  unfold score
  rw [coe_sum]
  refine Finset.sum_congr rfl fun d _ => ?_
  rw [keyBlock_at k n hn, qHead_at, hk, hq, EReal.coe_mul]

/-- The fixed-shift branch, after `n` blocks. -/
theorem fixedTo_at (N : Vec Ideal S1x1 .f32) (g : Fin 4) (c : Fin 512) (μ : ℝ) (hμ : shift q N g (ix3 0 0 c) = (μ : EReal))
    (n : ℕ) (hn : n ≤ 16) :
    (fixedTo q k v N g n).1 (ix3 0 0 c) = den (score qr kr g c) μ (1024 * n)
      ∧ ∀ d, (fixedTo q k v N g n).2 (ix3 0 d c) = num (score qr kr g c) (value v d) μ (1024 * n) := by
  induction n with
  | zero => exact ⟨zeroL_at g c, fun d => zeroA_at g d c⟩
  | succ n ih =>
    obtain ⟨h1, h2⟩ := ih (by omega)
    have hw : ∀ r : Fin 1024, Ideal.exp2 (blockScores q k g (Fin.ofNat 16 n) (ix3 0 r c) - shift q N g (ix3 0 0 c))
        = (wt (score qr kr g c (1024 * n + r.val)) μ : EReal) := fun r => by
      unfold blockScores
      rw [pay_scores, products_at hq hk g c n (by omega), hμ, exp2_sub]
    refine ⟨?_, fun d => ?_⟩
    · show k0_pay18 _ _ _ (ix3 0 0 c) = _
      rw [pay_denominator, h1, Nat.mul_succ, den_add]
      simp only [hw]
    · show k0_pay19 _ _ _ (ix3 0 d c) = _
      rw [pay_numerator, h2, Nat.mul_succ, num_add]
      simp only [hw, valBlock_at v n (by omega)]
      rfl

/-- The running-maximum branch, after `n` blocks: the maximum is some real, and the sums are taken under it. -/
theorem onlineTo_at (g : Fin 4) (c : Fin 512) (n : ℕ) (hn : n ≤ 16) :
    ∃ μ : ℝ, (onlineTo q k v g n).1 (ix3 0 0 c) = (μ : EReal)
      ∧ (onlineTo q k v g n).2.1 (ix3 0 0 c) = den (score qr kr g c) μ (1024 * n)
      ∧ ∀ d, (onlineTo q k v g n).2.2 (ix3 0 d c) = num (score qr kr g c) (value v d) μ (1024 * n) := by
  induction n with
  | zero =>
    obtain ⟨x, hx⟩ := lowM_at g c
    exact ⟨x, hx, zeroL_at g c, fun d => zeroA_at g d c⟩
  | succ n ih =>
    obtain ⟨μ, h0, h1, h2⟩ := ih (by omega)
    obtain ⟨ν, hν⟩ := fold_max_real (fun r : Fin 1024 => score qr kr g c (1024 * n + r.val)) μ
    have hs := products_at hq hk g c n (show n < 16 by omega)
    have hm : k0_pay342 (keyBlock k (Fin.ofNat 16 n)) (qHead q g) (onlineTo q k v g n).1 (ix2 0 c) = (ν : EReal) := by
      rw [pay_max, h0]; simp only [hs]; exact hν
    have hf : k0_pay343 (keyBlock k (Fin.ofNat 16 n)) (qHead q g) (onlineTo q k v g n).1 (ix2 0 c) = (wt μ ν : EReal) := by
      rw [pay_factor, hm, h0, exp2_sub]
    have hw : ∀ r, k0_pay344 (keyBlock k (Fin.ofNat 16 n)) (qHead q g) (onlineTo q k v g n).1 (ix2 r c)
        = (wt (score qr kr g c (1024 * n + r.val)) ν : EReal) := fun r => by
      rw [pay_weight', hm, hs, exp2_sub]
    refine ⟨ν, ?_, ?_, fun d => ?_⟩
    · exact (pay_keep _ c).trans hm
    · show k0_pay345 _ _ _ _ (ix3 0 0 c) = _
      rw [pay_denominator', hf, h1, Nat.mul_succ, den_add, den_shift]
      simp only [hw]
    · show k0_pay346 _ _ _ _ (ix3 0 d c) = _
      rw [pay_numerator', hf, h2, Nat.mul_succ, num_add, num_shift]
      simp only [hw, valBlock_at v n (show n < 16 by omega)]
      rfl

omit hq in
/-- The largest norms are nonnegative reals. -/
theorem normsTo_real (n : ℕ) (hn : n ≤ 16) (r : Fin 1024) : ∃ x : ℝ, 0 ≤ x ∧ normsTo k n (ix2 r 0) = (x : EReal) := by
  induction n with
  | zero => exact ⟨0, le_rfl, pay_norm_zero r⟩
  | succ n ih =>
    obtain ⟨x, hx, h⟩ := ih (by omega)
    refine ⟨max x (∑ d : Fin 128, kr (Fin.ofNat 16384 (1024 * n + r.val)) d * kr (Fin.ofNat 16384 (1024 * n + r.val)) d),
      le_max_of_le_left hx, ?_⟩
    show k0_pay373 _ _ (ix2 r 0) = _
    rw [pay_norm, h]
    simp only [keyBlock_at k n (show n < 16 by omega), hk]
    simp only [← EReal.coe_mul]
    rw [← coe_sum]
    exact (EReal.coe_strictMono.monotone.map_max).symm

omit hq in
/-- The largest key norm is a nonnegative real. -/
theorem keyNorm_real : ∃ x : ℝ, 0 ≤ x ∧ keyNorm k (ix2 0 0) = (x : EReal) := by
  unfold keyNorm
  rw [pay_norm_max]
  choose f hf h using normsTo_real hk 16 le_rfl
  have h0 : (0 : EReal) ≤ Finset.univ.fold max (⊥ : EReal) fun r => normsTo k 16 (ix2 r 0) :=
    (Finset.le_fold_max _).2 (.inr ⟨0, Finset.mem_univ _, by rw [h]; exact EReal.coe_nonneg.2 (hf 0)⟩)
  have h1 : (Finset.univ.fold max (⊥ : EReal) fun r => normsTo k 16 (ix2 r 0)) ≠ ⊤ :=
    ne_of_lt ((Finset.fold_max_lt _).2 ⟨bot_lt_top, fun r _ => by rw [h]; exact EReal.coe_lt_top _⟩)
  have h2 : (Finset.univ.fold max (⊥ : EReal) fun r => normsTo k 16 (ix2 r 0)) ≠ ⊥ :=
    ne_of_gt (lt_of_lt_of_le EReal.bot_lt_zero h0)
  exact ⟨_, EReal.toReal_nonneg h0, (EReal.coe_toReal h1 h2).symm⟩

/-- A query's fixed shift is a real. -/
theorem shift_real (g : Fin 4) (c : Fin 512) : ∃ μ : ℝ, shift q (keyNorm k) g (ix3 0 0 c) = (μ : EReal) := by
  obtain ⟨x, hx, h⟩ := keyNorm_real hk
  unfold shift
  rw [pay_shift, h]
  simp only [qHead_at, hq, ← EReal.coe_mul]
  rw [← coe_sum, ← EReal.coe_mul, Ideal.sqrt_coe,
    if_neg (not_lt.2 (mul_nonneg (Finset.sum_nonneg fun d _ => mul_self_nonneg _) hx))]
  exact ⟨_, rfl⟩

/-- The output of head `g`'s query `c` in channel `d`. -/
theorem headOut_at (g : Fin 4) (c : Fin 512) (d : Fin 128) :
    ∃ μ : ℝ, headOut q k v (keyNorm k) g (ix3 0 c d)
      = Ideal.div (num (score qr kr g c) (value v d) μ 16384) (den (score qr kr g c) μ 16384) := by
  unfold headOut
  split_ifs with hs
  · obtain ⟨μ, hμ⟩ := shift_real hq hk g c
    obtain ⟨h1, h2⟩ := fixedTo_at (v := v) hq hk (keyNorm k) g c μ hμ 16 le_rfl
    exact ⟨μ, by rw [pay_quotient, h1, h2]⟩
  · obtain ⟨μ, -, h1, h2⟩ := onlineTo_at (v := v) hq hk g c 16 le_rfl
    exact ⟨μ, by rw [pay_quotient, h1, h2]⟩

end Cert.Attn

end
-- ==== Proof.Reference.lean ====
/-
  The reference's result at one query and one channel, over the extended reals.
-/
module

public import proofs.«01_k».proof.Proof.Gen.ReferenceIdeal.Run
public import Idealize.ShloMosaic.Lib.Pointwise

@[expose] public section

noncomputable section

namespace Cert.Attn.Ref

open Idealize.ShloMosaic Cert.ReferenceIdeal Cert.ReferenceIdeal.Gen

/-- The scores: each query against each key of its key head, scaled. -/
def scores (q : FVec Ideal S2x16384x8x128 .f32) (k : FVec Ideal S2x16384x2x128 .f32) : FVec Ideal S2x2x4x16384x16384 .f32 :=
  mulf (transpose S2x2x4x16384x16384 [0, 1, 4, 3, 2] (Host.dotGeneral dot_S2x16384x2x128_S2x16384x2x4x128_S2x2x16384x16384x4_3_4_1_13_02_02 none k (shapeCast _ q shapeCasts_S2x16384x8x128_S2x16384x2x4x128)) transposes_S2x2x16384x16384x4_S2x2x4x16384x16384_0_1_4_3_2) (broadcastInDim S2x2x4x16384x16384 ![] bcast_S_S2x2x4x16384x16384 (Host.divf (constant S_ .f32 0x3F800000#32) (Host.sqrt (constant S_ .f32 0x43000000#32))))

/-- Each query's largest score. -/
def largest (s : FVec Ideal S2x2x4x16384x16384 .f32) : FVec Ideal S2x2x4x16384 .f32 :=
  maximumf (broadcastInDim S2x2x4x16384 ![] bcast_S_S2x2x4x16384 (constant S_ .f32 0xFF800000#32)) (Host.reduce FloatOps.maximumf s (constant S_ .f32 0xFF800000#32) reducesTo_S2x2x4x16384x16384_S2x2x4x16384_d4 h_S_)

/-- A number per query, at each of its keys. -/
def spread (x : FVec Ideal S2x2x4x16384 .f32) : FVec Ideal S2x2x4x16384x16384 .f32 :=
  broadcastInDim S2x2x4x16384x16384 ![0, 1, 2, 3, 4] bcast_S2x2x4x16384x1_S2x2x4x16384x16384_0_1_2_3_4 (broadcastInDim S2x2x4x16384x1 ![0, 1, 2, 3] bcast_S2x2x4x16384_S2x2x4x16384x1_0_1_2_3 x)

/-- The exponentials of the scores less the largest. -/
def exps (s : FVec Ideal S2x2x4x16384x16384 .f32) : FVec Ideal S2x2x4x16384x16384 .f32 :=
  Host.exp (subf s (spread (largest s)))

/-- The softmax probabilities. -/
def probs (e : FVec Ideal S2x2x4x16384x16384 .f32) : FVec Ideal S2x2x4x16384x16384 .f32 :=
  Host.divf e (spread (Host.reduceAdd e (constant S_ .f32 0x00000000#32) reducesTo_S2x2x4x16384x16384_S2x2x4x16384_d4 h_S_))

/-- The values under the probabilities, laid out by token. -/
def mix (p : FVec Ideal S2x2x4x16384x16384 .f32) (v : FVec Ideal S2x16384x2x128 .f32) : FVec Ideal S2x16384x1024 .bf16 :=
  truncf .bf16 (shapeCast _ (transpose S2x16384x2x4x128 [0, 4, 1, 3, 2] (Host.dotGeneral dot_S2x16384x2x128_S2x2x4x16384x16384_S2x2x128x4x16384_1_4_3_23_02_01 none v p) transposes_S2x2x128x4x16384_S2x16384x2x4x128_0_4_1_3_2) shapeCasts_S2x16384x2x4x128_S2x16384x1024) bitsLt_bf16_f32

/-- A score at an index. -/
theorem scores_at (q : FVec Ideal S2x16384x8x128 .f32) (k : FVec Ideal S2x16384x2x128 .f32) (b h : Fin 2) (g : Fin 4)
    (s j : Fin 16384) :
    scores q k (ix5 b h g s j)
      = (∑ d : Fin 128, k (ix4 b j h d) * q (ix4 b s (⟨4 * h.val + g.val, by omega⟩ : Fin 8) d))
        * Ideal.div (Ideal.ofBits .f32 0x3F800000#32) (Ideal.sqrt (Ideal.ofBits .f32 0x43000000#32)) := by
  pointwise [scores, dot_S2x16384x2x128_S2x16384x2x4x128_S2x2x16384x16384x4_3_4_1_13_02_02]
  refine congrArg (· * _) (Finset.sum_congr rfl fun d _ => ?_)
  rw [Fin.mk.injEq _ _ _ _ |>.mpr (Nat.mul_comm h.val 4 ▸ rfl : h.val * 4 + g.val = 4 * h.val + g.val)]

/-- The largest score at an index. -/
theorem largest_at (s : FVec Ideal S2x2x4x16384x16384 .f32) (b h : Fin 2) (g : Fin 4) (i : Fin 16384) :
    largest s (ix4 b h g i) = max (Ideal.ofBits .f32 0xFF800000#32)
      (Finset.univ.fold max (Ideal.ofBits .f32 0xFF800000#32) fun j : Fin 16384 => s (ix5 b h g i j)) := by
  unfold largest
  rw [show ∀ x y : FVec Ideal S2x2x4x16384 .f32, maximumf x y (ix4 b h g i) = max (x (ix4 b h g i)) (y (ix4 b h g i))
    from fun _ _ => rfl]
  refine congrArg₂ max rfl ?_
  rw [Host.reduce_eq_fold, Shape.ReducesTo.fold_fiber_r5_a4]
  rfl

/-- An exponential at an index. -/
theorem exps_at (s : FVec Ideal S2x2x4x16384x16384 .f32) (b h : Fin 2) (g : Fin 4) (i j : Fin 16384) :
    exps s (ix5 b h g i j) = Ideal.exp (s (ix5 b h g i j) - largest s (ix4 b h g i)) := by
  pointwise [exps, spread]

/-- A probability at an index. -/
theorem probs_at (e : FVec Ideal S2x2x4x16384x16384 .f32) (b h : Fin 2) (g : Fin 4) (i j : Fin 16384) :
    probs e (ix5 b h g i j) = Ideal.div (e (ix5 b h g i j)) (∑ j' : Fin 16384, e (ix5 b h g i j')) := by
  pointwise [probs, spread]

/-- The result at an index. -/
theorem mix_at (p : FVec Ideal S2x2x4x16384x16384 .f32) (v : FVec Ideal S2x16384x2x128 .f32) (b h : Fin 2) (g : Fin 4)
    (i : Fin 16384) (d : Fin 128) :
    mix p v (ix3 b i (⟨512 * h.val + 128 * g.val + d.val, by omega⟩ : Fin 1024))
      = ∑ j : Fin 16384, v (ix4 b j h d) * p (ix5 b h g i j) := by
  pointwise [mix, dot_S2x16384x2x128_S2x2x4x16384x16384_S2x2x128x4x16384_1_4_3_23_02_01]

end Cert.Attn.Ref

end
-- ==== Proof.Scale.lean ====
/-
  The two scales as reals: the kernel's queries carry `1 / (log 2 · √128)` and its weights are powers of two, the
  reference's scores carry `1 / √128` and its weights are exponentials.
-/
module

public import Idealize.ShloMosaic.Lib.IdealHost

@[expose] public section

noncomputable section

namespace Cert.Attn

open Idealize.ShloMosaic

/-- The word that denotes 128. -/
theorem word_128 : Ideal.ofBits .f32 0x43000000#32 = ((128 : ℝ) : EReal) := by
  simp [Ideal.ofBits, Ideal.ieee, -EReal.coe_mul]; norm_num
/-- The word that denotes 2. -/
theorem word_2 : Ideal.ofBits .f32 0x40000000#32 = ((2 : ℝ) : EReal) := by
  simp [Ideal.ofBits, Ideal.ieee, -EReal.coe_mul]; norm_num

/-- The reciprocal of a nonzero real. -/
theorem one_div_real (x : ℝ) (hx : x ≠ 0) : Ideal.div 1 (x : EReal) = ((1 / x : ℝ) : EReal) := by
  unfold Ideal.div
  rw [if_neg (by exact_mod_cast hx), one_mul, one_div, EReal.coe_inv]

theorem sqrt_128 : Ideal.sqrt ((128 : ℝ) : EReal) = ((Real.sqrt 128 : ℝ) : EReal) := by
  show (if (128 : ℝ) < 0 then ⊥ else ((Real.sqrt 128 : ℝ) : EReal)) = _
  rw [if_neg (by norm_num)]
theorem log_2 : Ideal.log ((2 : ℝ) : EReal) = ((Real.log 2 : ℝ) : EReal) := by
  show (if (2 : ℝ) ≤ 0 then ⊥ else ((Real.log 2 : ℝ) : EReal)) = _
  rw [if_neg (by norm_num)]

theorem sqrt_pos : 0 < Real.sqrt 128 := Real.sqrt_pos.2 (by norm_num)
theorem log_pos : 0 < Real.log 2 := Real.log_pos (by norm_num)

/-- The reference's scale. -/
theorem ref_scale : Ideal.div (Ideal.ofBits .f32 0x3F800000#32) (Ideal.sqrt (Ideal.ofBits .f32 0x43000000#32))
    = ((1 / Real.sqrt 128 : ℝ) : EReal) := by
  rw [Ideal.ofBits_one_f32, word_128, sqrt_128, one_div_real _ sqrt_pos.ne']

/-- The kernel's scale. -/
theorem ker_scale : Ideal.div (Ideal.ofBits .f32 0x3F800000#32)
    (Ideal.log (Ideal.ofBits .f32 0x40000000#32) * Ideal.sqrt (Ideal.ofBits .f32 0x43000000#32))
    = ((1 / (Real.log 2 * Real.sqrt 128) : ℝ) : EReal) := by
  rw [Ideal.ofBits_one_f32, word_2, word_128, sqrt_128, log_2, ← EReal.coe_mul,
    one_div_real _ (mul_pos log_pos sqrt_pos).ne']

/-- The kernel's scale times `log 2` is the reference's. -/
theorem scales : 1 / (Real.log 2 * Real.sqrt 128) * Real.log 2 = 1 / Real.sqrt 128 := by
  have h1 := log_pos.ne'
  have h2 := sqrt_pos.ne'
  field_simp

end Cert.Attn

end
-- ==== Proof.RefValue.lean ====
/-
  The reference's result with real queries and keys: a weighted sum of the values under exponentials of the scaled
  scores, with a real shift.
-/
module

public import proofs.«01_k».proof.Proof.Reference
public import proofs.«01_k».proof.Proof.Softmax
public import proofs.«01_k».proof.Proof.Scale

@[expose] public section

noncomputable section

namespace Cert.Attn.Ref

open Idealize.ShloMosaic Cert.ReferenceIdeal Cert.ReferenceIdeal.Gen

variable {q : FVec Ideal S2x16384x8x128 .f32} {k v : FVec Ideal S2x16384x2x128 .f32}
  {qr : S2x16384x8x128.Idx → ℝ} {kr : S2x16384x2x128.Idx → ℝ}

/-- A query's scaled score against key `j`, as a real. -/
def rscore (qr : S2x16384x8x128.Idx → ℝ) (kr : S2x16384x2x128.Idx → ℝ) (b h : Fin 2) (g : Fin 4) (i j : Fin 16384) : ℝ :=
  (∑ d : Fin 128, kr (ix4 b j h d) * qr (ix4 b i (⟨4 * h.val + g.val, by omega⟩ : Fin 8) d)) * (1 / Real.sqrt 128)

theorem scores_real (hq : ∀ i, q i = (qr i : EReal)) (hk : ∀ i, k i = (kr i : EReal)) (b h : Fin 2) (g : Fin 4)
    (i j : Fin 16384) : scores q k (ix5 b h g i j) = (rscore qr kr b h g i j : EReal) := by
  rw [scores_at, ref_scale, rscore, EReal.coe_mul, coe_sum]
  refine congrArg (· * _) (Finset.sum_congr rfl fun d _ => ?_)
  rw [hq, hk, EReal.coe_mul]

/-- A query's largest score is a real. -/
theorem largest_real (hq : ∀ i, q i = (qr i : EReal)) (hk : ∀ i, k i = (kr i : EReal)) (b h : Fin 2) (g : Fin 4)
    (i : Fin 16384) : ∃ M : ℝ, largest (scores q k) (ix4 b h g i) = (M : EReal) := by
  obtain ⟨M, hM⟩ := fold_max_real (fun j => rscore qr kr b h g i j) (rscore qr kr b h g i 0)
  refine ⟨M, ?_⟩
  rw [largest_at, show Ideal.ofBits .f32 0xFF800000#32 = ⊥ by simp [Ideal.ofBits, Ideal.ieee], ← hM]
  rw [show (fun j => scores q k (ix5 b h g i j)) = fun j => (rscore qr kr b h g i j : EReal)
    from funext fun j => scores_real hq hk b h g i j]
  rw [max_eq_right bot_le]
  exact (max_eq_right ((Finset.le_fold_max _).2 (Or.inr ⟨0, Finset.mem_univ _, le_rfl⟩))).symm

/-- The reference's result at an index. -/
theorem result_at (hq : ∀ i, q i = (qr i : EReal)) (hk : ∀ i, k i = (kr i : EReal)) (b h : Fin 2) (g : Fin 4)
    (i : Fin 16384) (d : Fin 128) : ∃ M : ℝ,
    mix (probs (exps (scores q k))) v (ix3 b i (⟨512 * h.val + 128 * g.val + d.val, by omega⟩ : Fin 1024))
      = ∑ j : Fin 16384, Ideal.div (Ideal.exp ((rscore qr kr b h g i j : EReal) - (M : EReal)))
          (∑ j' : Fin 16384, Ideal.exp ((rscore qr kr b h g i j' : EReal) - (M : EReal))) * v (ix4 b j h d) := by
  obtain ⟨M, hM⟩ := largest_real hq hk b h g i
  refine ⟨M, ?_⟩
  have he : ∀ j, exps (scores q k) (ix5 b h g i j) = Ideal.exp ((rscore qr kr b h g i j : EReal) - (M : EReal)) :=
    fun j => by rw [exps_at, hM, scores_real hq hk]
  have hp : ∀ j, probs (exps (scores q k)) (ix5 b h g i j)
      = Ideal.div (Ideal.exp ((rscore qr kr b h g i j : EReal) - (M : EReal)))
          (∑ j' : Fin 16384, Ideal.exp ((rscore qr kr b h g i j' : EReal) - (M : EReal))) := fun j =>
    (probs_at _ b h g i j).trans (congrArg₂ Ideal.div (he j) (Finset.sum_congr rfl fun j' _ => he j'))
  refine (mix_at _ v b h g i d).trans (Finset.sum_congr rfl fun j _ => ?_)
  exact (congrArg (v (ix4 b j h d) * ·) (hp j)).trans (mul_comm _ _)

end Cert.Attn.Ref

end
-- ==== Proof.Value.lean ====
/-
  The kernel's result array is the reference's: at every query and channel both are the same softmax-weighted sum.
-/
module

public import proofs.«01_k».proof.Proof.Blocks
public import proofs.«01_k».proof.Proof.Head
public import proofs.«01_k».proof.Proof.RefValue
public import Idealize.ShloMosaic.Lib.Pipeline.ValueKit.Geometry

@[expose] public section

noncomputable section

namespace Cert.Attn

open Idealize.ShloMosaic Cert.KernelIdeal Cert.KernelIdeal.Gen Idealize.ShloMosaic.Pipeline

/-- What the body leaves in the output window at a point. -/
theorem after_out {F : FTy → Type} [FloatOps F] (m : (ℓ : Loc nD τ sig) → Buf (Elt F) ℓ) (c : Dev nD) (t : Fin cfg0.N) :
    (dats m 0 c).after 3 t = outAt m c t := by
  unfold dats
  rfl

variable (m : (ℓ : Loc nD τ sig) → Buf (Elt Ideal) ℓ) (c : Dev nD)

/-- The reference's result array, of this program's arguments. -/
def expected : FVec Ideal S2x16384x1024 .bf16 :=
  Ref.mix (Ref.probs (Ref.exps (Ref.scores (argAt0 m c) (argAt1 m c)))) (argAt2 m c)

variable {qr : S2x16384x8x128.Idx → ℝ} {kr : S2x16384x2x128.Idx → ℝ}

/-- The packing of the heads' outputs, read back. -/
theorem pack_put {s s' : Shape} (X : Parts s s') {α : Type} (A : Fin 4 → s'.Idx → α) (g : Fin 4) (y : s'.Idx) :
    X.pack A (X.put g y) = A g y := by
  show A (X.hd (X.put g y)) (X.tl (X.put g y)) = A g y
  rw [X.hd_put, X.tl_put]

/-- A point's output at one query and one channel is the expected array's element there. -/
theorem outAt_at (hq : ∀ i, argAt0 m c i = (qr i : EReal)) (hk : ∀ i, argAt1 m c i = (kr i : EReal)) (t : Fin grid0.N)
    (g : Fin 4) (x : Fin 512) (d : Fin 128) :
    outAt m c t (outs.put g (ix3 (0 : Fin 1) x d))
      = expected m c (ix3 (batchOf t) (rowOf t x) (channel (headOf t) g d)) := by
  obtain ⟨M, hM⟩ := Ref.result_at (v := argAt2 m c) hq hk (batchOf t) (headOf t) g (rowOf t x) d
  obtain ⟨μ, hμ⟩ := headOut_at (q := qAt m c t) (k := kAt m c t) (v := vAt m c t)
    (qr := fun g d x => qr (ix4 (batchOf t) (rowOf t x) (qhead (headOf t) g) d) * (1 / (Real.log 2 * Real.sqrt 128)))
    (kr := fun j d => kr (ix4 (batchOf t) j (headOf t) d))
    (fun g d x => by rw [qAt_at, ker_scale, hq, EReal.coe_mul]) (fun j d => by rw [kAt_at, hk]) g x d
  have hl : outAt m c t (outs.put g (ix3 (0 : Fin 1) x d))
      = headOut (qAt m c t) (kAt m c t) (vAt m c t) (keyNorm (kAt m c t)) g (ix3 0 x d) := by
    unfold outAt
    exact pack_put outs _ g (ix3 (0 : Fin 1) x d)
  refine (hl.trans hμ).trans (Eq.trans ?_ hM.symm)
  rw [quotient_eq _ _ μ M 16384 (by norm_num), Finset.sum_range]
  have hs : ∀ j : Fin 16384, score (fun g d x => qr (ix4 (batchOf t) (rowOf t x) (qhead (headOf t) g) d)
      * (1 / (Real.log 2 * Real.sqrt 128))) (fun j d => kr (ix4 (batchOf t) j (headOf t) d)) g x j.val * Real.log 2
      = Ref.rscore qr kr (batchOf t) (headOf t) g (rowOf t x) j := fun j => by
    unfold score Ref.rscore
    rw [← scales, Fin.ofNat_val_eq_self, Finset.sum_mul, Finset.sum_mul]
    refine Finset.sum_congr rfl fun d _ => ?_
    rw [show (⟨4 * (headOf t).val + g.val, by omega⟩ : Fin 8) = qhead (headOf t) g from rfl]
    ring
  refine Finset.sum_congr rfl fun j _ => congrArg₂ (· * ·) (congrArg₂ Ideal.div (by rw [hs]) ?_) ?_
  · rw [Finset.sum_range]
    exact Finset.sum_congr rfl fun j' _ => by rw [hs]
  · rw [value, Fin.ofNat_val_eq_self, vAt_at]

/-- Every index of an output block is some head's query and channel. -/
theorem out_index (y : S1x512x512.Idx) : ∃ (g : Fin 4) (x : Fin 512) (d : Fin 128), y = outs.put g (ix3 (0 : Fin 1) x d) := by
  refine ⟨outs.hd y, y 1, outs.tl y 2, ?_⟩
  conv_lhs => rw [← outs.put_hd_tl y]
  refine congrArg (outs.put _) (funext fun a => ?_)
  fin_cases a
  · exact Subsingleton.elim (α := Fin 1) _ _
  · rfl
  · rfl

/-- The output blocks cover the array. -/
theorem covers : (cfg0.win 3).Covers := by decide +kernel

/-- The kernel's result array is the expected one. -/
theorem result_eq (hq : ∀ i, argAt0 m c i = (qr i : EReal)) (hk : ∀ i, argAt1 m c i = (kr i : EReal)) :
    (dats m 0 c).arrAt 3 cfg0.N = expected m c := by
  refine (dats m 0 c).arrAt_eq_of_covers 3 _ covers fun t _ y => ?_
  obtain ⟨g, x, d, hy⟩ := out_index y
  have h1 : expected m c ((Rect.block (s := S2x16384x1024) S1x512x512.size (cc0_transform_3 (grid0.coords t)) (hinb0_3 _)).emb
      (outs.put g (ix3 (0 : Fin 1) x d))) = outAt m c t (outs.put g (ix3 (0 : Fin 1) x d)) := by
    rw [emb_o t _ (blk_o t), outAt_at m c hq hk]
  subst hy
  have h2 : (dats m 0 c).after 3 t = outAt m c t := after_out m c t
  have h3 : ((cfg0.win 3).blk t).view.emb (outs.put g (ix3 (0 : Fin 1) x d))
      = (Rect.block (s := S2x16384x1024) S1x512x512.size (cc0_transform_3 (grid0.coords t)) (hinb0_3 _)).emb
        (outs.put g (ix3 (0 : Fin 1) x d)) := rfl
  refine Eq.trans ?_ (h1.symm.trans (congrArg (expected m c) h3.symm))
  blk_simp
  rw [h2]

end Cert.Attn

end
-- ==== Proof.Finite.lean ====
/-
  The precondition, opened: that all queries and keys are of absolute value below infinity says each is a real.
-/
module

public import proofs.«01_k».proof.Pre_finite_queries_and_keys
public import Idealize.ShloMosaic.Lib.ReduceAll
public import Idealize.ShloMosaic.Lib.Pointwise

@[expose] public section

noncomputable section

namespace Cert.Attn

open Idealize.ShloMosaic

/-- The shape relations the precondition's operations take. -/
instance preFacts : Cert.Pre_finite_queries_and_keys.Facts where
  bcast_S_S2x16384x8x128 := by decide
  reducesTo_S2x16384x8x128_S_d0_1_2_3 := by decide
  h_S_ := by decide
  bcast_S_S2x16384x2x128 := by decide
  reducesTo_S2x16384x2x128_S_d0_1_2_3 := by decide

/-- The word that denotes infinity. -/
theorem word_top : Ideal.ofBits .f32 0x7F800000#32 = ⊤ := by simp [Ideal.ofBits, Ideal.ieee]

/-- An extended real whose absolute value is below infinity is a real. -/
theorem real_of_abs_lt (x : EReal)
    (h : FloatOps.cmpf (F := Ideal) (φ := .f32) .olt (FloatOps.hostAbsf x) (Ideal.ofBits .f32 0x7F800000#32) = 1#1) :
    ∃ r : ℝ, x = (r : EReal) := by
  rw [word_top] at h
  induction x with
  | bot => simp [Ideal.cmpf_def, Ideal.hostAbsf_def, Ideal.absf_def, Ideal.cmp] at h
  | top => simp [Ideal.cmpf_def, Ideal.hostAbsf_def, Ideal.absf_def, Ideal.cmp] at h
  | coe r => exact ⟨r, rfl⟩

/-- Under the precondition every query and every key is a real. -/
theorem real_of_pre (q : FVec Ideal Cert.Pre_finite_queries_and_keys.S2x16384x8x128 .f32)
    (k v : FVec Ideal Cert.Pre_finite_queries_and_keys.S2x16384x2x128 .f32)
    (h : Cert.Pre_finite_queries_and_keys.fn q k v = fun _ => 1#1) :
    (∀ i, ∃ r : ℝ, q i = (r : EReal)) ∧ ∀ i, ∃ r : ℝ, k i = (r : EReal) := by
  haveI : Subsingleton Cert.Pre_finite_queries_and_keys.S_.Idx := ⟨fun a b => funext fun i => i.elim0⟩
  obtain ⟨h1, h2⟩ := IntOp.andi_eq_one.1 (congrFun h fun i => i.elim0)
  exact ⟨fun i => real_of_abs_lt _ (Host.reduce_andi_all _ _ _ _ _ h1 i),
    fun i => real_of_abs_lt _ (Host.reduce_andi_all _ _ _ _ _ h2 i)⟩

end Cert.Attn

end
-- ==== Proof.Algebraic.lean ====
/-
  The value claim: with real queries and keys the kernel and the reference end with the same result array. The frames
  under that precondition are the plain frames.
-/
module

public import proofs.«01_k».proof.Proof.Value
public import proofs.«01_k».proof.Proof.Finite
public import proofs.«01_k».proof.Proof.Frames

@[expose] public section

noncomputable section

namespace Cert.Attn

open Idealize.ShloMosaic Idealize.SL.Sem

/-- The idealized kernel's frame, under the precondition. -/
theorem frame_ideal_pre : Cert.quiescent_KernelIdeal_pre_finite_queries_and_keys (hKernelIdeal := Cert.KernelIdeal.Gen.facts) :=
  fun m ρ _ => frame_run (F := Ideal) m ρ

/-- The reference's frame, under the precondition. -/
theorem frame_reference_pre : Cert.quiescent_ReferenceIdeal_pre_finite_queries_and_keys (hReferenceIdeal := Cert.ReferenceIdeal.Gen.facts) :=
  fun m ρ _ => frame_reference m ρ trivial

/-- The kernel's result array is the reference's, when every query and key is a real. -/
theorem algebraic : Cert.algebraic_KernelIdeal_ReferenceIdeal_pre_finite_queries_and_keys
    (hKernelIdeal := Cert.KernelIdeal.Gen.facts) (hReferenceIdeal := Cert.ReferenceIdeal.Gen.facts) := by
  intro m g m' g' hpre hargs
  refine ⟨fun c => expected m c, ?_, ?_⟩
  · refine (θ_run Cert.KernelIdeal.defs _ _).mono (fun _ h c => ⟨(h.1 c).1.trans ?_, (h.1 c).2⟩) (run_main (F := Ideal) m g)
    obtain ⟨hq, hk⟩ := real_of_pre _ _ _ (hpre c)
    choose qr hqr using hq
    choose kr hkr using hk
    exact result_eq m c hqr hkr
  · refine (θ_run Cert.ReferenceIdeal.defs _ _).mono (fun _ h c => ⟨(h c).1.trans ?_, (h c).2⟩)
      (Cert.ReferenceIdeal.Value.run (F := Ideal) m' g')
    obtain ⟨h0, h1, h2⟩ := hargs c
    rw [h0, h1, h2]
    rfl

end Cert.Attn

end
-- ==== Proof.FfnRun.lean ====
/-
  The run of the two feed-forward regions, for any float values, and the three frames: the kernel's and its
  idealization's from that one run (the two programs have the same text), the reference's from its run as a list of host
  operations.
-/
module

public import proofs.«01_k».proof.Defs
public import proofs.«01_k».proof.Proof.Gen.Kernel2Ideal.Frame
public import proofs.«01_k».proof.Proof.Gen.Kernel2
public import proofs.«01_k».proof.Proof.Gen.Reference2Ideal.Run

@[expose] public section

noncomputable section

namespace Cert.Ffn

open Cert.Kernel2Ideal Cert.Kernel2Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch's implicit arguments are found by unifying its conclusion with this one, which unfolds plain definitions in
-- a metavariable's type
set_option backward.isDefEq.respectTransparency.types false in
/-- The program runs: its result is what the second region leaves, its arguments are unchanged, every counter is zero. -/
theorem run_main : θ_run defs (onTc (τ := τ) (main (F := F))) ⟨m, fun _ => 0, ρ⟩ (fun r => (∀ c : Dev nD,
      r.2.mem ((c.tc : Thread nD τ).loc main_v6) = V3 m ρ c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _
        iexact Hp
      iexists ∅
      iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨(fun c =>
      ⟨h c _ (mem_uc main_v6 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩), funext fun g => hz g (.inr (no_unscoped g.2))⟩)

/-- The kernel and its idealization have the same body table. -/
theorem defs₀_eq : Cert.Kernel2.defs₀ (F := Bits) = Cert.Kernel2Ideal.defs₀ (F := Bits) := by
  refine congrArg Defs.onTc (funext fun l => ?_)
  match l with
  | ⟨0, _⟩ => exact funext fun a => rfl
  | ⟨1, _⟩ => exact funext fun a => rfl
  | ⟨_ + 2, h⟩ => exact absurd h (Nat.not_lt.2 (Nat.le_add_left _ _))
theorem defs_eq : Cert.Kernel2.defs (F := Bits) = Cert.Kernel2Ideal.defs (F := Bits) :=
  congrArg (Pipeline.defs Cert.Kernel2Ideal.pcfgs) defs₀_eq

/-- The kernel's frame: it runs, leaves its arguments unchanged and every semaphore counter at zero. -/
theorem frame_kernel : Cert.quiescent_Kernel2 (hKernel2 := Cert.Kernel2.Gen.facts) := fun m ρ _ => by
  rw [defs_eq]
  exact (θ_run Cert.Kernel2Ideal.defs _ _).mono (fun _ h => ⟨fun c => (h.1 c).2, h.2⟩) (run_main (F := Bits) m ρ)

/-- The idealization's frame. -/
theorem frame_ideal : Cert.quiescent_Kernel2Ideal (hKernel2Ideal := Cert.Kernel2Ideal.Gen.facts) := fun m ρ _ =>
  (θ_run Cert.Kernel2Ideal.defs _ _).mono (fun _ h => ⟨fun c => (h.1 c).2, h.2⟩) (run_main (F := Ideal) m ρ)

/-- The reference's frame: it declares no semaphore. -/
theorem frame_reference : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

end Cert.Ffn

end
-- ==== Proof.FfnTile.lean ====
/-
  What the two feed-forward bodies leave in their output blocks: the rows normed, and the block of the input with three
  column chunks of the gated products added to it.
-/
module

public import proofs.«01_k».proof.Proof.Gen.Kernel2Ideal.Frame
public import Idealize.ShloMosaic.Lib.Pipeline.Value

@[expose] public section

noncomputable section

namespace Cert.Ffn

open Cert.Kernel2Ideal Cert.Kernel2Ideal.Gen
open Idealize.ShloMosaic Idealize.ShloMosaic.TcCoe

variable {F : FTy → Type} [FloatOps F]

/-- Columns `n ..` of a block of the first two weights, 1024 of them. -/
abbrev wide (n : ℕ) (h : ∀ a, (![0, n] : Fin 2 → ℕ) a + S2048x1024.size a ≤ S2048x2816.size a) (w : Vec F S2048x2816 .bf16) :
    Vec F S2048x1024 .bf16 := fun y => w ((Rect.unit (s := S2048x2816) ![0, n] S2048x1024.size h).emb y)
/-- The last 768 columns. -/
abbrev wideLast (w : Vec F S2048x2816 .bf16) : Vec F S2048x768 .bf16 :=
  fun y => w ((Rect.unit (s := S2048x2816) ![0, 2048] S2048x768.size inb_S2048x2816_S2048x768_0_2048).emb y)
/-- Rows `n ..` of a block of the third weight, 1024 of them. -/
abbrev tall (n : ℕ) (h : ∀ a, (![n, 0] : Fin 2 → ℕ) a + S1024x2048.size a ≤ S2816x2048.size a) (w : Vec F S2816x2048 .bf16) :
    Vec F S1024x2048 .bf16 := fun y => w ((Rect.unit (s := S2816x2048) ![n, 0] S1024x2048.size h).emb y)
/-- The last 768 rows. -/
abbrev tallLast (w : Vec F S2816x2048 .bf16) : Vec F S768x2048 .bf16 :=
  fun y => w ((Rect.unit (s := S2816x2048) ![2048, 0] S768x2048.size inb_S2816x2048_S768x2048_2048_0).emb y)

/-- One chunk of 1024 columns added to what is there. -/
abbrev chunk (h : Vec F S512x2048 .bf16) (w1 w3 : Vec F S2048x1024 .bf16) (w2 : Vec F S1024x2048 .bf16) (o : Vec F S512x2048 .f32) :
    Vec F S512x2048 .f32 := k0_pay7 h w1 w3 o w2
/-- The last chunk, of 768 columns. -/
abbrev chunkLast (h : Vec F S512x2048 .bf16) (w1 w3 : Vec F S2048x768 .bf16) (w2 : Vec F S768x2048 .bf16) (o : Vec F S512x2048 .f32) :
    Vec F S512x2048 .f32 := k1_pay2 h w1 w3 o w2

/-- The output block: the input block and the three chunks. -/
def tile (h : Vec F S512x2048 .bf16) (y : Vec F S512x2048 .f32) (w1 w3 : Vec F S2048x2816 .bf16) (w2 : Vec F S2816x2048 .bf16) :
    Vec F S512x2048 .f32 :=
  chunkLast h (wideLast w1) (wideLast w3) (tallLast w2)
    (chunk h (wide 1024 inb_S2048x2816_S2048x1024_0_1024 w1) (wide 1024 inb_S2048x2816_S2048x1024_0_1024 w3) (tall 1024 inb_S2816x2048_S1024x2048_1024_0 w2)
      (chunk h (wide 0 inb_S2048x2816_S2048x1024_0_0 w1) (wide 0 inb_S2048x2816_S2048x1024_0_0 w3) (tall 0 inb_S2816x2048_S1024x2048_0_0 w2) y))

/-- An access that starts at the origin. -/
theorem origin : (![0, 0] : Fin 2 → ℕ) = fun _ => 0 := funext fun a => by fin_cases a <;> rfl

/-- A load of the whole block after stores of whole blocks reads the last store. -/
theorem read_last {sg : RefSig} {κ : Kind} {sp : Space} (v : View sg κ sp S512x2048 .f32)
    (inb inb' : ∀ a, (![0, 0] : Fin 2 → ℕ) a + S512x2048.size a ≤ S512x2048.size a) (w : Vec F S512x2048 .f32)
    (L : List (View.Piece (Elt F) S512x2048 .f32)) :
    v.readCov ((⟨Rect.unit (s := S512x2048) ![0, 0] S512x2048.size inb, w⟩ : View.Piece (Elt F) S512x2048 .f32) :: L)
      (Rect.unit (s := S512x2048) ![0, 0] S512x2048.size inb').toLoadRect = w := by
  rw [View.readCov_eq_canon_ld _ _ _ (fun y => ⟨_, List.mem_cons_self, View.mem_set_unit_zero origin inb y⟩),
    View.canon_cons_unit_zero origin, View.ld_unit_zero origin]

/-! The two bodies spell their chunks differently; each is the same addition. -/

theorem chunk_a (x : Vec F S512x2048 .f32) (g : Vec F S1x2048 .f32) (a b : Vec F S2048x1024 .bf16) (w : Vec F S1024x2048 .bf16)
    (o : Vec F S512x2048 .f32) : k0_pay6 (k0_pay4 x g a b) (k0_pay5 o) w = chunk (k0_pay2 x g) a b w o := by
  unfold k0_pay6 k0_pay4 k0_pay5 chunk k0_pay7
  simp only [shapeCast_self]
theorem chunk_b (h : Vec F S512x2048 .bf16) (a b : Vec F S2048x768 .bf16) (w : Vec F S768x2048 .bf16) (o : Vec F S512x2048 .f32) :
    k0_pay1 (k0_pay8 h a) (k0_pay9 h b) (k0_pay10 h a) o w = chunkLast h a b w o := by
  unfold k0_pay1 k0_pay10 k0_pay8 k0_pay9 chunkLast k1_pay2
  simp only [shapeCast_self]
theorem chunk_c (h : Vec F S512x2048 .bf16) (a b : Vec F S2048x1024 .bf16) (w : Vec F S1024x2048 .bf16) (o : Vec F S512x2048 .f32) :
    k1_pay5 h a b o w = chunk h a b w o := by
  unfold k1_pay5 k1_pay3 chunk k0_pay7
  simp only [shapeCast_self]
theorem chunk_d (h : Vec F S512x2048 .bf16) (a b : Vec F S2048x1024 .bf16) (w : Vec F S1024x2048 .bf16) (o : Vec F S512x2048 .f32) :
    k1_pay1 (k1_pay6 h a) (k1_pay7 h b) (FloatOps.ofBits .f32 0x3F000000#32) o w = chunk h a b w o := by
  unfold k1_pay1 k1_pay6 k1_pay7 k1_pay3 chunk k0_pay7
  simp only [shapeCast_self]

/-! Copies of a block. -/

theorem keep_a (o : Vec F S512x2048 .f32) : k0_pay3 o = o := by
  unfold k0_pay3
  simp only [shapeCast_self]
theorem keep_b (h : Vec F S512x2048 .bf16) : k1_pay3 h = h := by
  unfold k1_pay3
  simp only [shapeCast_self]
theorem keep_c (o : Vec F S512x2048 .f32) : k1_pay4 o = o := by
  unfold k1_pay4
  simp only [shapeCast_self]

section First

variable (c : Dev nD) (i : grid0.Coords) (a1 : Memref sig .tc .vmem S512x2048 .f32) (h1 : a1.IsWhole)
  (a2 : Memref sig .tc .vmem S1x2048 .f32) (h2 : a2.IsWhole) (a3 : Memref sig .tc .vmem S2048x2816 .bf16) (h3 : a3.IsWhole)
  (a4 : Memref sig .tc .vmem S2048x2816 .bf16) (h4 : a4.IsWhole) (a5 : Memref sig .tc .vmem S2816x2048 .bf16) (h5 : a5.IsWhole)
  (a6 : Memref sig .tc .vmem S512x2048 .f32) (h6 : a6.IsWhole) (a7 : Memref sig .tc .vmem S512x2048 .bf16) (h7 : a7.IsWhole)
  (y : Vec F S512x2048 .f32) (g : Vec F S1x2048 .f32) (w1 w3 : Vec F S2048x2816 .bf16) (w2 : Vec F S2816x2048 .bf16)

/-- The first body leaves the normed rows in its second output. -/
theorem first_rows : out0_A_6 c i a1 h1 a2 h2 a3 h3 a4 h4 a5 h5 a6 h6 a7 h7 y g w1 w3 w2 = k0_pay2 y g := by
  unfold out0_A_6
  rw [View.read_writes_eq_canon _ _ _ (cover0_A_6 c i a1 h1 a2 h2 a3 h3 a4 h4 a5 h5 a6 h6 a7 h7 y g w1 w3 w2)]
  unfold kernelRun0_A
  dsimp only
  sl_unfold_words
  rw [View.canon_unit_zero origin]
  simp only [View.readAt_eq_ld, h1.read_unread, h2.read_unread, View.ld_unit_zero (S := S512x2048) origin,
    View.ld_unit_zero (S := S1x2048) origin]

/-- The first body leaves the block with its chunks in its first output. -/
theorem first_block : out0_A_5 c i a1 h1 a2 h2 a3 h3 a4 h4 a5 h5 a6 h6 a7 h7 y g w1 w3 w2 = tile (k0_pay2 y g) y w1 w3 w2 := by
  unfold out0_A_5
  rw [View.read_writes_eq_canon _ _ _ (cover0_A_5 c i a1 h1 a2 h2 a3 h3 a4 h4 a5 h5 a6 h6 a7 h7 y g w1 w3 w2)]
  unfold kernelRun0_A
  dsimp only
  sl_unfold_words
  erw [View.canon_cons_unit_zero (S := S512x2048) origin]
  erw [read_last, read_last, read_last]
  simp only [View.readAt_eq_ld, h1.read_unread, h2.read_unread, h3.read_unread,
    h4.read_unread, h5.read_unread, View.ld_unit_zero (S := S512x2048) origin, View.ld_unit_zero (S := S1x2048) origin,
    chunk_a, chunk_b, keep_a]
  rfl

end First

section Second

variable (c : Dev nD) (i : grid1.Coords) (a1 : Memref sig .tc .vmem S512x2048 .bf16) (h1 : a1.IsWhole)
  (a2 : Memref sig .tc .vmem S512x2048 .f32) (h2 : a2.IsWhole) (a3 : Memref sig .tc .vmem S2048x2816 .bf16) (h3 : a3.IsWhole)
  (a4 : Memref sig .tc .vmem S2048x2816 .bf16) (h4 : a4.IsWhole) (a5 : Memref sig .tc .vmem S2816x2048 .bf16) (h5 : a5.IsWhole)
  (a6 : Memref sig .tc .vmem S512x2048 .f32) (h6 : a6.IsWhole)
  (h : Vec F S512x2048 .bf16) (y : Vec F S512x2048 .f32) (w1 w3 : Vec F S2048x2816 .bf16) (w2 : Vec F S2816x2048 .bf16)

/-- The second body leaves the block with its chunks in its output. -/
theorem second_block : out1_A_5 c i a1 h1 a2 h2 a3 h3 a4 h4 a5 h5 a6 h6 h y w1 w3 w2 = tile h y w1 w3 w2 := by
  unfold out1_A_5
  rw [View.read_writes_eq_canon _ _ _ (cover1_A_5 c i a1 h1 a2 h2 a3 h3 a4 h4 a5 h5 a6 h6 h y w1 w3 w2)]
  unfold kernelRun1_A
  dsimp only
  sl_unfold_words
  erw [View.canon_cons_unit_zero (S := S512x2048) origin]
  erw [read_last, read_last, read_last]
  simp only [View.readAt_eq_ld, h1.read_unread, h2.read_unread, h3.read_unread,
    h4.read_unread, h5.read_unread, View.ld_unit_zero (S := S512x2048) origin,
    chunk_c, chunk_d, keep_b, keep_c]
  rfl

end Second

end Cert.Ffn

end
-- ==== Proof.FfnSum.lean ====
/-
  The sums of the feed-forward part: a gated product under half the sigmoid, and the sum over all its 5632 columns as the
  sums over two parts of three chunks each.
-/
module

public import proofs.«01_k».proof.Proof.Softmax

@[expose] public section

noncomputable section

namespace Cert.Ffn

open Idealize.ShloMosaic

/-- The word that denotes one half. -/
theorem word_half : Ideal.ofBits .f32 0x3F000000#32 = ((1 / 2 : ℝ) : EReal) := by
  simp [Ideal.ofBits, Ideal.ieee, -EReal.coe_mul]; norm_num

/-- Half of `a`, times its sigmoid, times `b`: one column's gate. -/
def gate (a b : EReal) : EReal := ((1 / 2 : ℝ) : EReal) * a * Ideal.logistic a * b

/-- A sum over an initial part and the rest. -/
theorem sum_split {n : ℕ} (p q : ℕ) (h : p + q = n) (f : Fin n → EReal) :
    ∑ j, f j = ∑ j : Fin p, f ⟨j.val, by omega⟩ + ∑ j : Fin q, f ⟨p + j.val, by omega⟩ := by
  subst h
  exact Fin.sum_univ_add f

/-- A sum over the 2816 columns of a part, chunk by chunk. -/
theorem sum_part (f : Fin 2816 → EReal) (o : EReal) :
    o + ∑ j : Fin 1024, f ⟨0 + j.val, by omega⟩ + ∑ j : Fin 1024, f ⟨1024 + j.val, by omega⟩ + ∑ j : Fin 768, f ⟨2048 + j.val, by omega⟩
      = o + ∑ j, f j := by
  rw [sum_split 2048 768 rfl f, sum_split 1024 1024 rfl (fun j : Fin 2048 => f ⟨j.val, by omega⟩)]
  simp only [Nat.zero_add, add_assoc]

/-- A sum over all the columns, part by part. -/
theorem sum_parts (f : Fin 5632 → EReal) (o : EReal) :
    o + ∑ j : Fin 2816, f ⟨0 + j.val, by omega⟩ + ∑ j : Fin 2816, f ⟨2816 + j.val, by omega⟩ = o + ∑ j, f j := by
  rw [sum_split 2816 2816 rfl f]
  simp only [Nat.zero_add, add_assoc]

/-- Half of a sum of gated products is the sum of the halves. -/
theorem half_sum {n : ℕ} (a b w : Fin n → EReal) :
    ((1 / 2 : ℝ) : EReal) * ∑ j, a j * Ideal.logistic (a j) * b j * w j = ∑ j, gate (a j) (b j) * w j := by
  rw [Cert.Attn.coe_mul_sum _ _ (by norm_num)]
  refine Finset.sum_congr rfl fun j _ => ?_
  unfold gate
  simp only [mul_assoc]

end Cert.Ffn

end
-- ==== Proof.FfnAt.lean ====
/-
  The rows normed and the output block over the extended reals, read at one row and one column.
-/
module

public import proofs.«01_k».proof.Proof.FfnTile
public import proofs.«01_k».proof.Proof.FfnSum
public import Idealize.ShloMosaic.Lib.Pointwise

@[expose] public section

noncomputable section

namespace Cert.Ffn

open Cert.Kernel2Ideal Cert.Kernel2Ideal.Gen
open Idealize.ShloMosaic Idealize.ShloMosaic.TcCoe

/-- A row's reciprocal root mean square. -/
def scaleOf (x : Fin 2048 → EReal) : EReal :=
  Ideal.rsqrt (Ideal.div (∑ k, x k * x k) (Ideal.ofBits .f32 0x45000000#32) + Ideal.ofBits .f32 0x358637BD#32)

/-- The rows normed. -/
theorem rows_at (y : Vec Ideal S512x2048 .f32) (g : Vec Ideal S1x2048 .f32) (x : Fin 512) (d : Fin 2048) :
    k0_pay2 y g (ix2 x d) = y (ix2 x d) * scaleOf (fun k => y (ix2 x k)) * g (ix2 0 d) := by
  unfold scaleOf
  pointwise [k0_pay2]

/-- A chunk of 1024 columns. -/
theorem chunk_at (h : Vec Ideal S512x2048 .bf16) (a b : Vec Ideal S2048x1024 .bf16) (w : Vec Ideal S1024x2048 .bf16)
    (o : Vec Ideal S512x2048 .f32) (x : Fin 512) (d : Fin 2048) :
    chunk h a b w o (ix2 x d) = o (ix2 x d) + ∑ j : Fin 1024,
      gate (∑ k : Fin 2048, h (ix2 x k) * a (ix2 k j)) (∑ k : Fin 2048, h (ix2 x k) * b (ix2 k j)) * w (ix2 j d) := by
  unfold gate
  rw [← word_half]
  pointwise [k0_pay7, dot_S512x2048_S2048x1024_S512x1024_1_0_0_1_n_n, dot_S512x1024_S1024x2048_S512x2048_1_0_0_1_n_n]

/-- The chunk of 768 columns. -/
theorem chunkLast_at (h : Vec Ideal S512x2048 .bf16) (a b : Vec Ideal S2048x768 .bf16) (w : Vec Ideal S768x2048 .bf16)
    (o : Vec Ideal S512x2048 .f32) (x : Fin 512) (d : Fin 2048) :
    chunkLast h a b w o (ix2 x d) = o (ix2 x d) + ∑ j : Fin 768,
      gate (∑ k : Fin 2048, h (ix2 x k) * a (ix2 k j)) (∑ k : Fin 2048, h (ix2 x k) * b (ix2 k j)) * w (ix2 j d) := by
  unfold gate
  rw [← word_half]
  pointwise [k1_pay2, dot_S512x2048_S2048x768_S512x768_1_0_0_1_n_n, dot_S512x768_S768x2048_S512x2048_1_0_0_1_n_n]

theorem wide_at (n : ℕ) (hn : ∀ a, (![0, n] : Fin 2 → ℕ) a + S2048x1024.size a ≤ S2048x2816.size a) (w : Vec Ideal S2048x2816 .bf16)
    (k : Fin 2048) (j : Fin 1024) (hj : n + j.val < 2816) : wide n hn w (ix2 k j) = w (ix2 k ⟨n + j.val, hj⟩) := by
  refine congrArg w (funext fun a => ?_)
  fin_cases a
  · refine Fin.ext ?_
    show 0 + 1 * k.val = k.val
    omega
  · refine Fin.ext ?_
    show n + 1 * j.val = n + j.val
    omega
theorem wideLast_at (w : Vec Ideal S2048x2816 .bf16) (k : Fin 2048) (j : Fin 768) :
    wideLast w (ix2 k j) = w (ix2 k ⟨2048 + j.val, by omega⟩) := by
  refine congrArg w (funext fun a => ?_)
  fin_cases a
  · refine Fin.ext ?_
    show 0 + 1 * k.val = k.val
    omega
  · refine Fin.ext ?_
    show 2048 + 1 * j.val = 2048 + j.val
    omega
theorem tall_at (n : ℕ) (hn : ∀ a, (![n, 0] : Fin 2 → ℕ) a + S1024x2048.size a ≤ S2816x2048.size a) (w : Vec Ideal S2816x2048 .bf16)
    (j : Fin 1024) (d : Fin 2048) (hj : n + j.val < 2816) : tall n hn w (ix2 j d) = w (ix2 ⟨n + j.val, hj⟩ d) := by
  refine congrArg w (funext fun a => ?_)
  fin_cases a
  · refine Fin.ext ?_
    show n + 1 * j.val = n + j.val
    omega
  · refine Fin.ext ?_
    show 0 + 1 * d.val = d.val
    omega
theorem tallLast_at (w : Vec Ideal S2816x2048 .bf16) (j : Fin 768) (d : Fin 2048) :
    tallLast w (ix2 j d) = w (ix2 ⟨2048 + j.val, by omega⟩ d) := by
  refine congrArg w (funext fun a => ?_)
  fin_cases a
  · refine Fin.ext ?_
    show 2048 + 1 * j.val = 2048 + j.val
    omega
  · refine Fin.ext ?_
    show 0 + 1 * d.val = d.val
    omega

/-- The output block: the input and the sum over the part's 2816 columns. -/
theorem tile_at (h : Vec Ideal S512x2048 .bf16) (y : Vec Ideal S512x2048 .f32) (w1 w3 : Vec Ideal S2048x2816 .bf16)
    (w2 : Vec Ideal S2816x2048 .bf16) (x : Fin 512) (d : Fin 2048) :
    tile h y w1 w3 w2 (ix2 x d) = y (ix2 x d) + ∑ j : Fin 2816,
      gate (∑ k : Fin 2048, h (ix2 x k) * w1 (ix2 k j)) (∑ k : Fin 2048, h (ix2 x k) * w3 (ix2 k j)) * w2 (ix2 j d) := by
  unfold tile
  rw [chunkLast_at, chunk_at, chunk_at]
  refine Eq.trans ?_ (sum_part _ _)
  refine congrArg₂ (· + ·) (congrArg₂ (· + ·) (congrArg₂ (· + ·) rfl ?_) ?_) ?_
  · refine Finset.sum_congr rfl fun j _ => congrArg₂ (· * ·) (congrArg₂ gate ?_ ?_) (tall_at 0 _ w2 j d _)
    · exact Finset.sum_congr rfl fun k _ => congrArg₂ (· * ·) rfl (wide_at 0 _ w1 k j _)
    · exact Finset.sum_congr rfl fun k _ => congrArg₂ (· * ·) rfl (wide_at 0 _ w3 k j _)
  · refine Finset.sum_congr rfl fun j _ => congrArg₂ (· * ·) (congrArg₂ gate ?_ ?_) (tall_at 1024 _ w2 j d _)
    · exact Finset.sum_congr rfl fun k _ => congrArg₂ (· * ·) rfl (wide_at 1024 _ w1 k j _)
    · exact Finset.sum_congr rfl fun k _ => congrArg₂ (· * ·) rfl (wide_at 1024 _ w3 k j _)
  · refine Finset.sum_congr rfl fun j _ => congrArg₂ (· * ·) (congrArg₂ gate ?_ ?_) (tallLast_at w2 j d)
    · exact Finset.sum_congr rfl fun k _ => congrArg₂ (· * ·) rfl (wideLast_at w1 k j)
    · exact Finset.sum_congr rfl fun k _ => congrArg₂ (· * ·) rfl (wideLast_at w3 k j)

end Cert.Ffn

end
-- ==== Proof.FfnBlocks.lean ====
/-
  The blocks of point `t` of both regions: rows `512 t ..` of the tokens, and one part of the three weights, the first
  region's or the second's.
-/
module

public import proofs.«01_k».proof.Proof.FfnAt

@[expose] public section

noncomputable section

namespace Cert.Ffn

open Idealize.ShloMosaic Idealize.ShloMosaic.TcCoe Cert.Kernel2Ideal Cert.Kernel2Ideal.Gen

theorem blk0_0 : ∀ t : Fin grid0.N, cc0_transform_0 (grid0.coords t) = ![t.val, 0] := by decide +kernel
theorem blk0_1 : ∀ t : Fin grid0.N, cc0_transform_1 (grid0.coords t) = ![0, 0] := by decide +kernel
theorem blk0_2 : ∀ t : Fin grid0.N, cc0_transform_2 (grid0.coords t) = ![0, 0] := by decide +kernel
theorem blk0_3 : ∀ t : Fin grid0.N, cc0_transform_3 (grid0.coords t) = ![0, 0] := by decide +kernel
theorem blk0_4 : ∀ t : Fin grid0.N, cc0_transform_4 (grid0.coords t) = ![0, 0] := by decide +kernel
theorem blk0_5 : ∀ t : Fin grid0.N, cc0_transform_5 (grid0.coords t) = ![t.val, 0] := by decide +kernel
theorem blk0_6 : ∀ t : Fin grid0.N, cc0_transform_6 (grid0.coords t) = ![t.val, 0] := by decide +kernel
theorem blk1_0 : ∀ t : Fin grid1.N, cc1_transform_0 (grid1.coords t) = ![t.val, 0] := by decide +kernel
theorem blk1_1 : ∀ t : Fin grid1.N, cc1_transform_1 (grid1.coords t) = ![t.val, 0] := by decide +kernel
theorem blk1_2 : ∀ t : Fin grid1.N, cc1_transform_2 (grid1.coords t) = ![0, 1] := by decide +kernel
theorem blk1_3 : ∀ t : Fin grid1.N, cc1_transform_3 (grid1.coords t) = ![0, 1] := by decide +kernel
theorem blk1_4 : ∀ t : Fin grid1.N, cc1_transform_4 (grid1.coords t) = ![1, 0] := by decide +kernel
theorem blk1_5 : ∀ t : Fin grid1.N, cc1_transform_5 (grid1.coords t) = ![t.val, 0] := by decide +kernel

/-- Row `x` of the `n`-th block of rows. -/
def rowOf (n : Fin 64) (x : Fin 512) : Fin 32768 := ⟨512 * n.val + x.val, by omega⟩
/-- Column `j` of the `n`-th part of the columns. -/
def colOf (n : Fin 2) (j : Fin 2816) : Fin 5632 := ⟨2816 * n.val + j.val, by omega⟩

theorem emb_rows (n : Fin 64) (f : Fin 2 → Nat) (hf : f = ![n.val, 0])
    (inb : ∀ a, (f a + 1) * S512x2048.size a ≤ S32768x2048.size a) (x : Fin 512) (d : Fin 2048) :
    (Rect.block (s := S32768x2048) S512x2048.size f inb).emb (ix2 x d) = ix2 (rowOf n x) d := by
  subst hf
  funext a
  fin_cases a
  · refine Fin.ext ?_
    show n.val * 512 + 1 * x.val = 512 * n.val + x.val
    omega
  · refine Fin.ext ?_
    show 0 * 2048 + 1 * d.val = d.val
    omega

theorem emb_factor (f : Fin 2 → Nat) (hf : f = ![0, 0])
    (inb : ∀ a, (f a + 1) * S1x2048.size a ≤ S1x2048.size a) (d : Fin 2048) :
    (Rect.block (s := S1x2048) S1x2048.size f inb).emb (ix2 (0 : Fin 1) d) = ix2 0 d := by
  subst hf
  funext a
  fin_cases a
  · refine Fin.ext ?_
    show 0 * 1 + 1 * 0 = 0
    omega
  · refine Fin.ext ?_
    show 0 * 2048 + 1 * d.val = d.val
    omega

theorem emb_wide (n : Fin 2) (f : Fin 2 → Nat) (hf : f = ![0, n.val])
    (inb : ∀ a, (f a + 1) * S2048x2816.size a ≤ S2048x5632.size a) (k : Fin 2048) (j : Fin 2816) :
    (Rect.block (s := S2048x5632) S2048x2816.size f inb).emb (ix2 k j) = ix2 k (colOf n j) := by
  subst hf
  funext a
  fin_cases a
  · refine Fin.ext ?_
    show 0 * 2048 + 1 * k.val = k.val
    omega
  · refine Fin.ext ?_
    show n.val * 2816 + 1 * j.val = 2816 * n.val + j.val
    omega

theorem emb_tall (n : Fin 2) (f : Fin 2 → Nat) (hf : f = ![n.val, 0])
    (inb : ∀ a, (f a + 1) * S2816x2048.size a ≤ S5632x2048.size a) (j : Fin 2816) (d : Fin 2048) :
    (Rect.block (s := S5632x2048) S2816x2048.size f inb).emb (ix2 j d) = ix2 (colOf n j) d := by
  subst hf
  funext a
  fin_cases a
  · refine Fin.ext ?_
    show n.val * 2816 + 1 * j.val = 2816 * n.val + j.val
    omega
  · refine Fin.ext ?_
    show 0 * 2048 + 1 * d.val = d.val
    omega

variable (V : (c : Dev nD) → (b : Ref sig .tc) → Buf (Elt Ideal) ((c : Thread nD τ).loc b)) (c : Dev nD)

theorem in0_0 (t : Fin grid0.N) (x : Fin 512) (d : Fin 2048) :
    (iblk0 V c 0 t : Vec Ideal S512x2048 .f32) (ix2 x d) = (V c main_v0 : FVec Ideal S32768x2048 .f32) (ix2 (rowOf t x) d) := by
  have h : (iblk0 V c 0 t : Vec Ideal S512x2048 .f32) (ix2 x d) = (V c main_v0 : FVec Ideal S32768x2048 .f32)
      ((Rect.block (s := S32768x2048) S512x2048.size (cc0_transform_0 (grid0.coords t)) (hinb0_0 _)).emb (ix2 x d)) := rfl
  rw [h, emb_rows t _ (blk0_0 t)]
theorem in0_1 (t : Fin grid0.N) (d : Fin 2048) :
    (iblk0 V c 1 t : Vec Ideal S1x2048 .f32) (ix2 0 d) = (V c main_v1 : FVec Ideal S1x2048 .f32) (ix2 0 d) := by
  have h : (iblk0 V c 1 t : Vec Ideal S1x2048 .f32) (ix2 0 d) = (V c main_v1 : FVec Ideal S1x2048 .f32)
      ((Rect.block (s := S1x2048) S1x2048.size (cc0_transform_1 (grid0.coords t)) (hinb0_1 _)).emb (ix2 (0 : Fin 1) d)) := rfl
  rw [h, emb_factor _ (blk0_1 t)]
theorem in0_2 (t : Fin grid0.N) (k : Fin 2048) (j : Fin 2816) :
    (iblk0 V c 2 t : Vec Ideal S2048x2816 .bf16) (ix2 k j) = (V c main_v2 : FVec Ideal S2048x5632 .bf16) (ix2 k (colOf 0 j)) := by
  have h : (iblk0 V c 2 t : Vec Ideal S2048x2816 .bf16) (ix2 k j) = (V c main_v2 : FVec Ideal S2048x5632 .bf16)
      ((Rect.block (s := S2048x5632) S2048x2816.size (cc0_transform_2 (grid0.coords t)) (hinb0_2 _)).emb (ix2 k j)) := rfl
  rw [h, emb_wide 0 _ (blk0_2 t)]
theorem in0_3 (t : Fin grid0.N) (k : Fin 2048) (j : Fin 2816) :
    (iblk0 V c 3 t : Vec Ideal S2048x2816 .bf16) (ix2 k j) = (V c main_v3 : FVec Ideal S2048x5632 .bf16) (ix2 k (colOf 0 j)) := by
  have h : (iblk0 V c 3 t : Vec Ideal S2048x2816 .bf16) (ix2 k j) = (V c main_v3 : FVec Ideal S2048x5632 .bf16)
      ((Rect.block (s := S2048x5632) S2048x2816.size (cc0_transform_3 (grid0.coords t)) (hinb0_3 _)).emb (ix2 k j)) := rfl
  rw [h, emb_wide 0 _ (blk0_3 t)]
theorem in0_4 (t : Fin grid0.N) (j : Fin 2816) (d : Fin 2048) :
    (iblk0 V c 4 t : Vec Ideal S2816x2048 .bf16) (ix2 j d) = (V c main_v4 : FVec Ideal S5632x2048 .bf16) (ix2 (colOf 0 j) d) := by
  have h : (iblk0 V c 4 t : Vec Ideal S2816x2048 .bf16) (ix2 j d) = (V c main_v4 : FVec Ideal S5632x2048 .bf16)
      ((Rect.block (s := S5632x2048) S2816x2048.size (cc0_transform_4 (grid0.coords t)) (hinb0_4 _)).emb (ix2 j d)) := rfl
  rw [h, emb_tall 0 _ (blk0_4 t)]
theorem in1_0 (t : Fin grid1.N) (x : Fin 512) (d : Fin 2048) :
    (iblk1 V c 0 t : Vec Ideal S512x2048 .bf16) (ix2 x d) = (V c main_v5_1 : FVec Ideal S32768x2048 .bf16) (ix2 (rowOf t x) d) := by
  have h : (iblk1 V c 0 t : Vec Ideal S512x2048 .bf16) (ix2 x d) = (V c main_v5_1 : FVec Ideal S32768x2048 .bf16)
      ((Rect.block (s := S32768x2048) S512x2048.size (cc1_transform_0 (grid1.coords t)) (hinb1_0 _)).emb (ix2 x d)) := rfl
  rw [h, emb_rows t _ (blk1_0 t)]
theorem in1_1 (t : Fin grid1.N) (x : Fin 512) (d : Fin 2048) :
    (iblk1 V c 1 t : Vec Ideal S512x2048 .f32) (ix2 x d) = (V c main_v5_0 : FVec Ideal S32768x2048 .f32) (ix2 (rowOf t x) d) := by
  have h : (iblk1 V c 1 t : Vec Ideal S512x2048 .f32) (ix2 x d) = (V c main_v5_0 : FVec Ideal S32768x2048 .f32)
      ((Rect.block (s := S32768x2048) S512x2048.size (cc1_transform_1 (grid1.coords t)) (hinb1_1 _)).emb (ix2 x d)) := rfl
  rw [h, emb_rows t _ (blk1_1 t)]
theorem in1_2 (t : Fin grid1.N) (k : Fin 2048) (j : Fin 2816) :
    (iblk1 V c 2 t : Vec Ideal S2048x2816 .bf16) (ix2 k j) = (V c main_v2 : FVec Ideal S2048x5632 .bf16) (ix2 k (colOf 1 j)) := by
  have h : (iblk1 V c 2 t : Vec Ideal S2048x2816 .bf16) (ix2 k j) = (V c main_v2 : FVec Ideal S2048x5632 .bf16)
      ((Rect.block (s := S2048x5632) S2048x2816.size (cc1_transform_2 (grid1.coords t)) (hinb1_2 _)).emb (ix2 k j)) := rfl
  rw [h, emb_wide 1 _ (blk1_2 t)]
theorem in1_3 (t : Fin grid1.N) (k : Fin 2048) (j : Fin 2816) :
    (iblk1 V c 3 t : Vec Ideal S2048x2816 .bf16) (ix2 k j) = (V c main_v3 : FVec Ideal S2048x5632 .bf16) (ix2 k (colOf 1 j)) := by
  have h : (iblk1 V c 3 t : Vec Ideal S2048x2816 .bf16) (ix2 k j) = (V c main_v3 : FVec Ideal S2048x5632 .bf16)
      ((Rect.block (s := S2048x5632) S2048x2816.size (cc1_transform_3 (grid1.coords t)) (hinb1_3 _)).emb (ix2 k j)) := rfl
  rw [h, emb_wide 1 _ (blk1_3 t)]
theorem in1_4 (t : Fin grid1.N) (j : Fin 2816) (d : Fin 2048) :
    (iblk1 V c 4 t : Vec Ideal S2816x2048 .bf16) (ix2 j d) = (V c main_v4 : FVec Ideal S5632x2048 .bf16) (ix2 (colOf 1 j) d) := by
  have h : (iblk1 V c 4 t : Vec Ideal S2816x2048 .bf16) (ix2 j d) = (V c main_v4 : FVec Ideal S5632x2048 .bf16)
      ((Rect.block (s := S5632x2048) S2816x2048.size (cc1_transform_4 (grid1.coords t)) (hinb1_4 _)).emb (ix2 j d)) := rfl
  rw [h, emb_tall 1 _ (blk1_4 t)]

end Cert.Ffn

end
-- ==== Proof.FfnRef.lean ====
/-
  The reference's feed-forward part at one token and one column, over the extended reals.
-/
module

public import proofs.«01_k».proof.Proof.Gen.Reference2Ideal.Run
public import proofs.«01_k».proof.Proof.FfnSum
public import Idealize.ShloMosaic.Lib.Pointwise

@[expose] public section

noncomputable section

namespace Cert.Ffn.Ref

open Idealize.ShloMosaic Cert.Reference2Ideal Cert.Reference2Ideal.Gen

/-- The tokens normed. -/
def normed (x : FVec Ideal S2x16384x2048 .f32) (g : FVec Ideal S2048 .f32) : FVec Ideal S2x16384x2048 .f32 :=
  mulf (mulf x (broadcastInDim S2x16384x2048 ![0, 1, 2] bcast_S2x16384x1_S2x16384x2048_0_1_2 (Host.rsqrt (addf (Host.divf (broadcastInDim S2x16384x1 ![0, 1] bcast_S2x16384_S2x16384x1_0_1 (Host.reduceAdd (mulf x x) (constant S_ .f32 0x00000000#32) reducesTo_S2x16384x2048_S2x16384_d2 h_S_)) (broadcastInDim S2x16384x1 ![] bcast_S_S2x16384x1 (constant S_ .f32 0x45000000#32))) (broadcastInDim S2x16384x1 ![] bcast_S_S2x16384x1 (constant S_ .f32 0x358637BD#32)))))) (broadcastInDim S2x16384x2048 ![0, 1, 2] bcast_S1x1x2048_S2x16384x2048_0_1_2 (broadcastInDim S1x1x2048 ![2] bcast_S2048_S1x1x2048_2 g))

/-- The tokens times a weight. -/
def product (n : FVec Ideal S2x16384x2048 .f32) (w : FVec Ideal S2048x5632 .f32) : FVec Ideal S2x16384x5632 .f32 :=
  Host.dotGeneral dot_S2x16384x2048_S2048x5632_S2x16384x5632_2_0_01_1_n_n none n w

/-- The gated products. -/
def gated (a b : FVec Ideal S2x16384x5632 .f32) : FVec Ideal S2x16384x5632 .f32 :=
  mulf (mulf a (Host.divf (broadcastInDim S2x16384x5632 ![] bcast_S_S2x16384x5632 (constant S_ .f32 0x3F800000#32)) (addf (broadcastInDim S2x16384x5632 ![] bcast_S_S2x16384x5632 (constant S_ .f32 0x3F800000#32)) (Host.exp (Host.negf a))))) b

/-- The tokens and half of the gated products times the third weight, as rows. -/
def added (x : FVec Ideal S2x16384x2048 .f32) (p : FVec Ideal S2x16384x5632 .f32) (w : FVec Ideal S5632x2048 .f32) :
    FVec Ideal S32768x2048 .f32 :=
  shapeCast _ (addf x (mulf (broadcastInDim S2x16384x2048 ![] bcast_S_S2x16384x2048 (constant S_ .f32 0x3F000000#32)) (Host.dotGeneral dot_S2x16384x5632_S5632x2048_S2x16384x2048_2_0_01_1_n_n none p w))) shapeCasts_S2x16384x2048_S32768x2048

theorem normed_at (x : FVec Ideal S2x16384x2048 .f32) (g : FVec Ideal S2048 .f32) (b : Fin 2) (s : Fin 16384) (d : Fin 2048) :
    normed x g (ix3 b s d) = x (ix3 b s d)
      * Ideal.rsqrt (Ideal.div (∑ k : Fin 2048, x (ix3 b s k) * x (ix3 b s k)) (Ideal.ofBits .f32 0x45000000#32)
        + Ideal.ofBits .f32 0x358637BD#32) * g (ix1 d) := by
  pointwise [normed]

theorem product_at (n : FVec Ideal S2x16384x2048 .f32) (w : FVec Ideal S2048x5632 .f32) (b : Fin 2) (s : Fin 16384)
    (j : Fin 5632) : product n w (ix3 b s j) = ∑ k : Fin 2048, n (ix3 b s k) * w (ix2 k j) := by
  pointwise [product, dot_S2x16384x2048_S2048x5632_S2x16384x5632_2_0_01_1_n_n]

theorem gated_at (a b : FVec Ideal S2x16384x5632 .f32) (i : S2x16384x5632.Idx) :
    gated a b i = a i * Ideal.logistic (a i) * b i := by
  have h : gated a b i = a i * Ideal.div (Ideal.ofBits .f32 0x3F800000#32)
      (Ideal.ofBits .f32 0x3F800000#32 + Ideal.exp (-(a i))) * b i := rfl
  rw [h, Ideal.ofBits_one_f32]
  rfl

theorem added_at (x : FVec Ideal S2x16384x2048 .f32) (p : FVec Ideal S2x16384x5632 .f32) (w : FVec Ideal S5632x2048 .f32)
    (r : Fin 32768) (d : Fin 2048) :
    added x p w (ix2 r d) = x (ix3 ⟨r.val / 16384, by omega⟩ ⟨r.val % 16384, by omega⟩ d)
      + Ideal.ofBits .f32 0x3F000000#32 * ∑ j : Fin 5632, p (ix3 ⟨r.val / 16384, by omega⟩ ⟨r.val % 16384, by omega⟩ j) * w (ix2 j d) := by
  pointwise [added, dot_S2x16384x5632_S5632x2048_S2x16384x2048_2_0_01_1_n_n]

end Cert.Ffn.Ref

end
-- ==== Proof.FfnValue.lean ====
/-
  The arrays the two regions leave: the rows normed, and the rows with one part of the gated products added, and then the
  other. Together they are the reference's feed-forward part.
-/
module

public import proofs.«01_k».proof.Proof.FfnBlocks
public import proofs.«01_k».proof.Proof.FfnRef
public import Idealize.ShloMosaic.Lib.Pipeline.ValueKit.Geometry

@[expose] public section

noncomputable section

namespace Cert.Ffn

open Idealize.ShloMosaic Idealize.ShloMosaic.TcCoe Cert.Kernel2Ideal Cert.Kernel2Ideal.Gen Idealize.ShloMosaic.Pipeline
open Idealize.ShloMosaic.StableHlo

/-- The rows normed, as an array. -/
def normedRows (y : FVec Ideal S32768x2048 .f32) (g : FVec Ideal S1x2048 .f32) : FVec Ideal S32768x2048 .bf16 :=
  fun i => y i * scaleOf (fun k => y (ix2 (i 0) k)) * g (ix2 0 (i 1))

/-- The rows with the `n`-th part of the gated products added, as an array. -/
def withPart (n : Fin 2) (h : FVec Ideal S32768x2048 .bf16) (y : FVec Ideal S32768x2048 .f32) (w1 w3 : FVec Ideal S2048x5632 .bf16)
    (w2 : FVec Ideal S5632x2048 .bf16) : FVec Ideal S32768x2048 .f32 :=
  fun i => y i + ∑ j : Fin 2816, gate (∑ k : Fin 2048, h (ix2 (i 0) k) * w1 (ix2 k (colOf n j)))
    (∑ k : Fin 2048, h (ix2 (i 0) k) * w3 (ix2 k (colOf n j))) * w2 (ix2 (colOf n j) (i 1))

/-- An index of a block of rows is a row and a column. -/
theorem row_index (y : S512x2048.Idx) : ∃ (x : Fin 512) (d : Fin 2048), y = ix2 x d :=
  ⟨y 0, y 1, funext fun a => by fin_cases a <;> rfl⟩

variable (V : (c : Dev nD) → (b : Ref sig .tc) → Buf (Elt Ideal) ((c : Thread nD τ).loc b)) (c : Dev nD)

theorem rows0_at (t : Fin grid0.N) (x : Fin 512) (d : Fin 2048) :
    (k0_pay2 (F := Ideal) (iblk0 V c 0 t) (iblk0 V c 1 t)) (ix2 x d) = normedRows (V c main_v0) (V c main_v1) (ix2 (rowOf t x) d) := by
  rw [rows_at, in0_0, in0_1, show (fun k : Fin 2048 => (iblk0 V c 0 t : Vec Ideal S512x2048 .f32) (ix2 x k))
    = fun k => (V c main_v0 : FVec Ideal S32768x2048 .f32) (ix2 (rowOf t x) k) from funext fun k => in0_0 V c t x k]
  rfl

theorem left0_6 (t : Fin grid0.N) (x : Fin 512) (d : Fin 2048) :
    (outsAt0 V c t).2 (ix2 x d) = normedRows (V c main_v0) (V c main_v1) (ix2 (rowOf t x) d) := by
  unfold outsAt0
  dsimp only
  rw [first_rows, rows0_at]

theorem left0_5 (t : Fin grid0.N) (x : Fin 512) (d : Fin 2048) :
    (outsAt0 V c t).1 (ix2 x d) = withPart 0 (normedRows (V c main_v0) (V c main_v1)) (V c main_v0) (V c main_v2) (V c main_v3)
      (V c main_v4) (ix2 (rowOf t x) d) := by
  unfold outsAt0
  dsimp only
  rw [first_block, tile_at]
  refine congrArg₂ (· + ·) (in0_0 V c t x d) (Finset.sum_congr rfl fun j _ => congrArg₂ (· * ·) (congrArg₂ gate ?_ ?_) (in0_4 V c t j d))
  · exact Finset.sum_congr rfl fun k _ => congrArg₂ (· * ·) (rows0_at V c t x k) (in0_2 V c t k j)
  · exact Finset.sum_congr rfl fun k _ => congrArg₂ (· * ·) (rows0_at V c t x k) (in0_3 V c t k j)

theorem left1_5 (t : Fin grid1.N) (x : Fin 512) (d : Fin 2048) :
    outsAt1 V c t (ix2 x d) = withPart 1 (V c main_v5_1) (V c main_v5_0) (V c main_v2) (V c main_v3)
      (V c main_v4) (ix2 (rowOf t x) d) := by
  unfold outsAt1
  rw [second_block, tile_at]
  refine congrArg₂ (· + ·) (in1_1 V c t x d) (Finset.sum_congr rfl fun j _ => congrArg₂ (· * ·) (congrArg₂ gate ?_ ?_) (in1_4 V c t j d))
  · exact Finset.sum_congr rfl fun k _ => congrArg₂ (· * ·) (in1_0 V c t x k) (in1_2 V c t k j)
  · exact Finset.sum_congr rfl fun k _ => congrArg₂ (· * ·) (in1_0 V c t x k) (in1_3 V c t k j)

theorem covers0_5 : (cfg0.win 5).Covers := by decide +kernel
theorem covers0_6 : (cfg0.win 6).Covers := by decide +kernel
theorem covers1_5 : (cfg1.win 5).Covers := by decide +kernel

/-- The first region's second output array. -/
theorem array0_6 : (dat0 V c).arrAt 6 cfg0.N = normedRows (V c main_v0) (V c main_v1) := by
  refine (dat0 V c).arrAt_eq_of_covers 6 _ covers0_6 fun t _ y => ?_
  obtain ⟨x, d, hy⟩ := row_index y
  subst hy
  have h1 : normedRows (V c main_v0) (V c main_v1) ((Rect.block (s := S32768x2048) S512x2048.size
      (cc0_transform_6 (grid0.coords t)) (hinb0_6 _)).emb (ix2 x d)) = (outsAt0 V c t).2 (ix2 x d) := by
    rw [emb_rows t _ (blk0_6 t), left0_6]
  have h3 : ((cfg0.win 6).blk t).view.emb (ix2 x d) = (Rect.block (s := S32768x2048) S512x2048.size
      (cc0_transform_6 (grid0.coords t)) (hinb0_6 _)).emb (ix2 x d) := rfl
  refine Eq.trans ?_ (h1.symm.trans (congrArg (normedRows (V c main_v0) (V c main_v1)) h3.symm))
  blk_simp
  rw [after0_6]

/-- The first region's first output array. -/
theorem array0_5 : (dat0 V c).arrAt 5 cfg0.N = withPart 0 (normedRows (V c main_v0) (V c main_v1)) (V c main_v0) (V c main_v2)
    (V c main_v3) (V c main_v4) := by
  refine (dat0 V c).arrAt_eq_of_covers 5 _ covers0_5 fun t _ y => ?_
  obtain ⟨x, d, hy⟩ := row_index y
  subst hy
  have h1 : withPart 0 (normedRows (V c main_v0) (V c main_v1)) (V c main_v0) (V c main_v2) (V c main_v3) (V c main_v4)
      ((Rect.block (s := S32768x2048) S512x2048.size (cc0_transform_5 (grid0.coords t)) (hinb0_5 _)).emb (ix2 x d))
      = (outsAt0 V c t).1 (ix2 x d) := by
    rw [emb_rows t _ (blk0_5 t), left0_5]
  have h3 : ((cfg0.win 5).blk t).view.emb (ix2 x d) = (Rect.block (s := S32768x2048) S512x2048.size
      (cc0_transform_5 (grid0.coords t)) (hinb0_5 _)).emb (ix2 x d) := rfl
  refine Eq.trans ?_ (h1.symm.trans (congrArg (withPart 0 (normedRows (V c main_v0) (V c main_v1)) (V c main_v0) (V c main_v2)
    (V c main_v3) (V c main_v4)) h3.symm))
  blk_simp
  rw [after0_5]

/-- The second region's output array. -/
theorem array1_5 : (dat1 V c).arrAt 5 cfg1.N = withPart 1 (V c main_v5_1) (V c main_v5_0) (V c main_v2) (V c main_v3)
    (V c main_v4) := by
  refine (dat1 V c).arrAt_eq_of_covers 5 _ covers1_5 fun t _ y => ?_
  obtain ⟨x, d, hy⟩ := row_index y
  subst hy
  have h1 : withPart 1 (V c main_v5_1) (V c main_v5_0) (V c main_v2) (V c main_v3) (V c main_v4)
      ((Rect.block (s := S32768x2048) S512x2048.size (cc1_transform_5 (grid1.coords t)) (hinb1_5 _)).emb (ix2 x d))
      = outsAt1 V c t (ix2 x d) := by
    rw [emb_rows t _ (blk1_5 t), left1_5]
  have h3 : ((cfg1.win 5).blk t).view.emb (ix2 x d) = (Rect.block (s := S32768x2048) S512x2048.size
      (cc1_transform_5 (grid1.coords t)) (hinb1_5 _)).emb (ix2 x d) := rfl
  refine Eq.trans ?_ (h1.symm.trans (congrArg (withPart 1 (V c main_v5_1) (V c main_v5_0) (V c main_v2)
    (V c main_v3) (V c main_v4)) h3.symm))
  blk_simp
  rw [after1_5]

/-- One part and then the other make the reference's sum over all the columns. -/
theorem both_parts (x : FVec Ideal S2x16384x2048 .f32) (g : FVec Ideal S2048 .f32) (w1 w3 : FVec Ideal S2048x5632 .f32)
    (w2 : FVec Ideal S5632x2048 .f32) (y : FVec Ideal S32768x2048 .f32) (gr : FVec Ideal S1x2048 .f32)
    (v1 v3 : FVec Ideal S2048x5632 .bf16) (v2 : FVec Ideal S5632x2048 .bf16)
    (hy : ∀ r d, y (ix2 r d) = x (ix3 (⟨r.val / 16384, by omega⟩ : Fin 2) (⟨r.val % 16384, by omega⟩ : Fin 16384) d))
    (hg : ∀ d, gr (ix2 0 d) = g (ix1 d)) (h1 : ∀ i, v1 i = w1 i) (h3 : ∀ i, v3 i = w3 i) (h2 : ∀ i, v2 i = w2 i) :
    withPart 1 (normedRows y gr) (withPart 0 (normedRows y gr) y v1 v3 v2) v1 v3 v2
      = Ref.added x (Ref.gated (Ref.product (Ref.normed x g) w1) (Ref.product (Ref.normed x g) w3)) w2 := by
  have hn : ∀ r k, normedRows y gr (ix2 r k) = Ref.normed x g (ix3 (⟨r.val / 16384, by omega⟩ : Fin 2)
      (⟨r.val % 16384, by omega⟩ : Fin 16384) k) := fun r k => by
    rw [Ref.normed_at]
    show y (ix2 r k) * scaleOf (fun k => y (ix2 r k)) * gr (ix2 0 k) = _
    unfold scaleOf
    simp only [hy, hg]
  funext i
  obtain ⟨r, d, rfl⟩ : ∃ (r : Fin 32768) (d : Fin 2048), i = ix2 r d := ⟨i 0, i 1, funext fun a => by fin_cases a <;> rfl⟩
  rw [Ref.added_at, word_half]
  simp only [Ref.gated_at]
  rw [half_sum]
  simp only [Ref.product_at]
  refine Eq.trans ?_ (sum_parts _ _)
  have hp : ∀ v : FVec Ideal S2048x5632 .bf16, ∀ u : FVec Ideal S2048x5632 .f32, (∀ i, v i = u i) → ∀ q : Fin 5632,
      ∑ k : Fin 2048, normedRows y gr (ix2 r k) * v (ix2 k q)
        = ∑ k : Fin 2048, Ref.normed x g (ix3 (⟨r.val / 16384, by omega⟩ : Fin 2) (⟨r.val % 16384, by omega⟩ : Fin 16384) k)
          * u (ix2 k q) := fun v u hv q => Finset.sum_congr rfl fun k _ => by rw [hn, hv]
  have ht : ∀ (n : Fin 2) (j : Fin 2816), gate (∑ k : Fin 2048, normedRows y gr (ix2 r k) * v1 (ix2 k (colOf n j)))
        (∑ k : Fin 2048, normedRows y gr (ix2 r k) * v3 (ix2 k (colOf n j))) * v2 (ix2 (colOf n j) d)
      = gate (∑ k : Fin 2048, Ref.normed x g (ix3 (⟨r.val / 16384, by omega⟩ : Fin 2) (⟨r.val % 16384, by omega⟩ : Fin 16384) k)
          * w1 (ix2 k (colOf n j)))
        (∑ k : Fin 2048, Ref.normed x g (ix3 (⟨r.val / 16384, by omega⟩ : Fin 2) (⟨r.val % 16384, by omega⟩ : Fin 16384) k)
          * w3 (ix2 k (colOf n j))) * w2 (ix2 (colOf n j) d) := fun n j => by
    rw [hp v1 w1 h1, hp v3 w3 h3, h2]
  refine congrArg₂ (· + ·) (congrArg₂ (· + ·) (hy r d) ?_) ?_
  · exact Finset.sum_congr rfl fun j _ => ht 0 j
  · exact Finset.sum_congr rfl fun j _ => ht 1 j

end Cert.Ffn

end
-- ==== Proof.FfnAlgebraic.lean ====
/-
  The value claim of the feed-forward part: the kernel and the reference end with the same result array, whatever the
  arguments.
-/
module

public import proofs.«01_k».proof.Proof.FfnRun
public import proofs.«01_k».proof.Proof.FfnValue

@[expose] public section

noncomputable section

namespace Cert.Ffn

open Idealize.ShloMosaic Idealize.ShloMosaic.TcCoe Cert.Kernel2Ideal Cert.Kernel2Ideal.Gen Idealize.ShloMosaic.StableHlo
open Idealize.SL.Sem

variable (m : (ℓ : Loc nD τ sig) → Buf (Elt Ideal) ℓ) (ρ : Dev nD → PrngReg) (c : Dev nD)

/-- The arguments as vectors: the tokens, the norm's factors and the three weights. -/
abbrev argAt0 : FVec Ideal S2x16384x2048 .f32 := m ((c.tc : Thread nD τ).loc main_arg0)
abbrev argAt1 : FVec Ideal S2048 .f32 := m ((c.tc : Thread nD τ).loc main_arg1)
abbrev argAt2 : FVec Ideal S2048x5632 .f32 := m ((c.tc : Thread nD τ).loc main_arg2)
abbrev argAt3 : FVec Ideal S2048x5632 .f32 := m ((c.tc : Thread nD τ).loc main_arg3)
abbrev argAt4 : FVec Ideal S5632x2048 .f32 := m ((c.tc : Thread nD τ).loc main_arg4)

/-! The arrays the host prepares. -/

theorem tokens_eq : (V1 m ρ c main_v0 : FVec Ideal S32768x2048 .f32)
    = shapeCast _ (argAt0 m c) shapeCasts_S2x16384x2048_S32768x2048 := by
  unfold V1 W1
  after_results <;> rfl
theorem factors_eq : (V1 m ρ c main_v1 : FVec Ideal S1x2048 .f32) = shapeCast _ (argAt1 m c) shapeCasts_S2048_S1x2048 := by
  unfold V1 W1
  after_results <;> rfl
theorem first_eq : (V1 m ρ c main_v2 : FVec Ideal S2048x5632 .bf16) = truncf (φ := .f32) .bf16 (argAt2 m c) bitsLt_bf16_f32 := by
  unfold V1 W1
  after_results <;> rfl
theorem second_eq : (V1 m ρ c main_v3 : FVec Ideal S2048x5632 .bf16) = truncf (φ := .f32) .bf16 (argAt3 m c) bitsLt_bf16_f32 := by
  unfold V1 W1
  after_results <;> rfl
theorem third_eq : (V1 m ρ c main_v4 : FVec Ideal S5632x2048 .bf16) = truncf (φ := .f32) .bf16 (argAt4 m c) bitsLt_bf16_f32 := by
  unfold V1 W1
  after_results <;> rfl

/-! The weights pass the first region unchanged. -/

theorem first_kept : V2 m ρ c main_v2 = V1 m ρ c main_v2 := W2_of m ρ c main_v2 (by decide +kernel)
theorem second_kept : V2 m ρ c main_v3 = V1 m ρ c main_v3 := W2_of m ρ c main_v3 (by decide +kernel)
theorem third_kept : V2 m ρ c main_v4 = V1 m ρ c main_v4 := W2_of m ρ c main_v4 (by decide +kernel)

/-- The reference's result array, of this program's arguments. -/
def expected : FVec Ideal S32768x2048 .f32 :=
  Ref.added (argAt0 m c) (Ref.gated (Ref.product (Ref.normed (argAt0 m c) (argAt1 m c)) (argAt2 m c))
    (Ref.product (Ref.normed (argAt0 m c) (argAt1 m c)) (argAt3 m c))) (argAt4 m c)

/-- The kernel's result array is the expected one. -/
theorem result_eq : (V3 m ρ c main_v6 : FVec Ideal S32768x2048 .f32) = expected m c := by
  have h6 : (V2 m ρ c main_v5_1 : FVec Ideal S32768x2048 .bf16) = normedRows (V1 m ρ c main_v0) (V1 m ρ c main_v1) :=
    (hF0 m ρ c 6).symm.trans (array0_6 (V1 m ρ) c)
  have h5 : (V2 m ρ c main_v5_0 : FVec Ideal S32768x2048 .f32) = withPart 0 (normedRows (V1 m ρ c main_v0) (V1 m ρ c main_v1))
      (V1 m ρ c main_v0) (V1 m ρ c main_v2) (V1 m ρ c main_v3) (V1 m ρ c main_v4) :=
    (hF0 m ρ c 5).symm.trans (array0_5 (V1 m ρ) c)
  have h : (V3 m ρ c main_v6 : FVec Ideal S32768x2048 .f32) = withPart 1 (V2 m ρ c main_v5_1) (V2 m ρ c main_v5_0)
      (V2 m ρ c main_v2) (V2 m ρ c main_v3) (V2 m ρ c main_v4) :=
    (hF1 m ρ c 5).symm.trans (array1_5 (V2 m ρ) c)
  rw [h, h6, h5, first_kept, second_kept, third_kept]
  refine both_parts (argAt0 m c) (argAt1 m c) (argAt2 m c) (argAt3 m c) (argAt4 m c) _ _ _ _ _ (fun r d => ?_) (fun d => ?_)
    (fun i => ?_) (fun i => ?_) (fun i => ?_)
  · rw [tokens_eq]
    generalize argAt0 m c = x
    pointwise
  · rw [factors_eq]
    generalize argAt1 m c = g
    pointwise
  · rw [first_eq]
    rfl
  · rw [second_eq]
    rfl
  · rw [third_eq]
    rfl

/-- The kernel's result array is the reference's. -/
theorem algebraic : Cert.algebraic_Kernel2Ideal_Reference2Ideal
    (hKernel2Ideal := Cert.Kernel2Ideal.Gen.facts) (hReference2Ideal := Cert.Reference2Ideal.Gen.facts) := by
  intro m g m' g' _ hargs
  refine ⟨fun c => expected m c, ?_, ?_⟩
  · exact (θ_run Cert.Kernel2Ideal.defs _ _).mono (fun _ h c => ⟨(h.1 c).1.trans (result_eq m g c), (h.1 c).2⟩)
      (run_main (F := Ideal) m g)
  · refine (θ_run Cert.Reference2Ideal.defs _ _).mono (fun _ h c => ⟨(h c).1.trans ?_, (h c).2⟩)
      (Cert.Reference2Ideal.Value.run (F := Ideal) m' g')
    obtain ⟨h0, h1, h2, h3, h4⟩ := hargs c
    rw [h0, h1, h2, h3, h4]
    rfl

end Cert.Ffn

end
-- ==== Proof.PleRef.lean ====
/-
  The reference's per-layer embedding at one token and one column, over the extended reals. Its two norms are the
  feed-forward part's.
-/
module

public import proofs.«01_k».proof.Proof.Gen.Reference3Ideal.Run
public import proofs.«01_k».proof.Proof.FfnRef

@[expose] public section

noncomputable section

namespace Cert.Ple.Ref

open Idealize.ShloMosaic Cert.Reference3Ideal Cert.Reference3Ideal.Gen

/-- The tokens normed, times the gate's weight. -/
def gates (n : FVec Ideal S2x16384x2048 .f32) (w : FVec Ideal S2048x2048 .f32) : FVec Ideal S2x16384x2048 .f32 :=
  Host.dotGeneral dot_S2x16384x2048_S2048x2048_S2x16384x2048_2_0_01_1_n_n none n w

/-- The embedding times its weight. -/
def embedded (p : FVec Ideal S2x16384x256 .f32) (w : FVec Ideal S256x2048 .f32) : FVec Ideal S2x16384x2048 .f32 :=
  Host.dotGeneral dot_S2x16384x256_S256x2048_S2x16384x2048_2_0_01_1_n_n none p w

/-- The tokens and the gated embedding. -/
def mixed (x a e : FVec Ideal S2x16384x2048 .f32) : FVec Ideal S2x16384x2048 .f32 :=
  addf x (mulf (Host.divf (broadcastInDim S2x16384x2048 ![] bcast_S_S2x16384x2048 (constant S_ .f32 0x3F800000#32)) (addf (broadcastInDim S2x16384x2048 ![] bcast_S_S2x16384x2048 (constant S_ .f32 0x3F800000#32)) (Host.exp (Host.negf a)))) e)

/-- The result, as rows. -/
def expected (x : FVec Ideal S2x16384x2048 .f32) (p : FVec Ideal S2x16384x256 .f32) (g : FVec Ideal S2048 .f32)
    (wg : FVec Ideal S2048x2048 .f32) (wp : FVec Ideal S256x2048 .f32) (gf : FVec Ideal S2048 .f32) : FVec Ideal S32768x2048 .f32 :=
  shapeCast _ (Ffn.Ref.normed (mixed x (gates (Ffn.Ref.normed x g) wg) (embedded p wp)) gf) shapeCasts_S2x16384x2048_S32768x2048

theorem gates_at (n : FVec Ideal S2x16384x2048 .f32) (w : FVec Ideal S2048x2048 .f32) (b : Fin 2) (s : Fin 16384) (d : Fin 2048) :
    gates n w (ix3 b s d) = ∑ k : Fin 2048, n (ix3 b s k) * w (ix2 k d) := by
  pointwise [gates, dot_S2x16384x2048_S2048x2048_S2x16384x2048_2_0_01_1_n_n]

theorem embedded_at (p : FVec Ideal S2x16384x256 .f32) (w : FVec Ideal S256x2048 .f32) (b : Fin 2) (s : Fin 16384) (d : Fin 2048) :
    embedded p w (ix3 b s d) = ∑ k : Fin 256, p (ix3 b s k) * w (ix2 k d) := by
  pointwise [embedded, dot_S2x16384x256_S256x2048_S2x16384x2048_2_0_01_1_n_n]

theorem mixed_at (x a e : FVec Ideal S2x16384x2048 .f32) (i : S2x16384x2048.Idx) :
    mixed x a e i = x i + Ideal.logistic (a i) * e i := by
  have h : mixed x a e i = x i + Ideal.div (Ideal.ofBits .f32 0x3F800000#32)
      (Ideal.ofBits .f32 0x3F800000#32 + Ideal.exp (-(a i))) * e i := rfl
  rw [h, Ideal.ofBits_one_f32]
  rfl

theorem expected_at (x : FVec Ideal S2x16384x2048 .f32) (p : FVec Ideal S2x16384x256 .f32) (g : FVec Ideal S2048 .f32)
    (wg : FVec Ideal S2048x2048 .f32) (wp : FVec Ideal S256x2048 .f32) (gf : FVec Ideal S2048 .f32) (q : Fin 32768) (d : Fin 2048) :
    expected x p g wg wp gf (ix2 q d) = Ffn.Ref.normed (mixed x (gates (Ffn.Ref.normed x g) wg) (embedded p wp)) gf
      (ix3 (⟨q.val / 16384, by omega⟩ : Fin 2) (⟨q.val % 16384, by omega⟩ : Fin 16384) d) := by
  unfold expected
  generalize Ffn.Ref.normed (mixed x (gates (Ffn.Ref.normed x g) wg) (embedded p wp)) gf = n
  pointwise

end Cert.Ple.Ref

end
-- ==== Proof.Tiles.lean ====
/-
  Where an index of a block of rows, or of a block that is the whole array, lies in the array.
-/
module

public import proofs.«01_k».proof.Proof.FfnBlocks

@[expose] public section

noncomputable section

namespace Cert.Tiles

open Idealize.ShloMosaic

/-- An index of a block of rows is a row and a column. -/
theorem index_eq {p q : ℕ} (y : (⟨2, ![p, q]⟩ : Shape).Idx) : ∃ (x : Fin p) (d : Fin q), y = ix2 x d :=
  ⟨y 0, y 1, funext fun a => by fin_cases a <;> rfl⟩

/-- The `n`-th block of 512 rows of `q` columns each. -/
theorem emb_rows {q : ℕ} (n : Fin 64) (f : Fin 2 → ℕ) (hf : f = ![n.val, 0])
    (inb : ∀ a, (f a + 1) * (⟨2, ![512, q]⟩ : Shape).size a ≤ (⟨2, ![32768, q]⟩ : Shape).size a) (x : Fin 512) (d : Fin q) :
    (Rect.block (s := ⟨2, ![32768, q]⟩) (⟨2, ![512, q]⟩ : Shape).size f inb).emb (ix2 x d) = ix2 (Ffn.rowOf n x) d := by
  subst hf
  funext a
  fin_cases a
  · refine Fin.ext ?_
    show n.val * 512 + 1 * x.val = 512 * n.val + x.val
    omega
  · refine Fin.ext ?_
    show 0 * q + 1 * d.val = d.val
    omega

/-- A block that is the whole array. -/
theorem emb_whole {p q : ℕ} (f : Fin 2 → ℕ) (hf : f = ![0, 0])
    (inb : ∀ a, (f a + 1) * (⟨2, ![p, q]⟩ : Shape).size a ≤ (⟨2, ![p, q]⟩ : Shape).size a) (x : Fin p) (d : Fin q) :
    (Rect.block (s := ⟨2, ![p, q]⟩) (⟨2, ![p, q]⟩ : Shape).size f inb).emb (ix2 x d) = ix2 x d := by
  subst hf
  funext a
  fin_cases a
  · refine Fin.ext ?_
    show 0 * p + 1 * x.val = x.val
    omega
  · refine Fin.ext ?_
    show 0 * q + 1 * d.val = d.val
    omega

end Cert.Tiles

end
-- ==== Proof.PleValue.lean ====
/-
  The array that the per-layer embedding's region leaves: the tokens with the gated embedding added, normed.
-/
module

public import proofs.«01_k».proof.Proof.Gen.Kernel3Ideal.Frame
public import proofs.«01_k».proof.Proof.Tiles
public import Idealize.ShloMosaic.Lib.Pipeline.Value
public import Idealize.ShloMosaic.Lib.Pipeline.ValueKit.Geometry

@[expose] public section

noncomputable section

namespace Cert.Ple

open Idealize.ShloMosaic Idealize.ShloMosaic.TcCoe Cert.Kernel3Ideal Cert.Kernel3Ideal.Gen Idealize.ShloMosaic.Pipeline
open Idealize.ShloMosaic.StableHlo
open Cert.Ffn (scaleOf rowOf origin)

/-- A row with its gated embedding added, at column `d`: from the row `y`, its embedding `p`, the norm's factors and the
    two weights. -/
def mixRow (y : Fin 2048 → EReal) (p : Fin 256 → EReal) (g : Fin 2048 → EReal) (wg : Fin 2048 → Fin 2048 → EReal)
    (wp : Fin 256 → Fin 2048 → EReal) (d : Fin 2048) : EReal :=
  y d + Ideal.logistic (∑ k : Fin 2048, y k * scaleOf y * g k * wg k d) * ∑ j : Fin 256, p j * wp j d

/-- That row normed. -/
def outRow (y : Fin 2048 → EReal) (p : Fin 256 → EReal) (g : Fin 2048 → EReal) (wg : Fin 2048 → Fin 2048 → EReal)
    (wp : Fin 256 → Fin 2048 → EReal) (gf : Fin 2048 → EReal) (d : Fin 2048) : EReal :=
  mixRow y p g wg wp d * scaleOf (mixRow y p g wg wp) * gf d

/-- The rows normed, as an array. -/
def outRows (y : FVec Ideal S32768x2048 .f32) (p : FVec Ideal S32768x256 .f32) (g : FVec Ideal S1x2048 .f32)
    (wg : FVec Ideal S2048x2048 .bf16) (wp : FVec Ideal S256x2048 .bf16) (gf : FVec Ideal S1x2048 .f32) : FVec Ideal S32768x2048 .f32 :=
  fun i => outRow (fun k => y (ix2 (i 0) k)) (fun j => p (ix2 (i 0) j)) (fun k => g (ix2 0 k)) (fun k d => wg (ix2 k d))
    (fun j d => wp (ix2 j d)) (fun k => gf (ix2 0 k)) (i 1)

/-- The body's rows before their norm, at one row and one column. -/
theorem mix_at (y : Vec Ideal S512x2048 .f32) (p : Vec Ideal S512x256 .f32) (g : Vec Ideal S1x2048 .f32)
    (wg : Vec Ideal S2048x2048 .bf16) (wp : Vec Ideal S256x2048 .bf16) (x : Fin 512) (d : Fin 2048) :
    k0_pay2 y g wg p wp (ix2 x d) = mixRow (fun k => y (ix2 x k)) (fun j => p (ix2 x j)) (fun k => g (ix2 0 k))
      (fun k d => wg (ix2 k d)) (fun j d => wp (ix2 j d)) d := by
  unfold mixRow scaleOf
  pointwise [k0_pay2, dot_S512x2048_S2048x2048_S512x2048_1_0_0_1_n_n, dot_S512x256_S256x2048_S512x2048_1_0_0_1_n_n]

/-- The body's norm of its rows, at one row and one column. -/
theorem norm_at (y : Vec Ideal S512x2048 .f32) (p : Vec Ideal S512x256 .f32) (g : Vec Ideal S1x2048 .f32)
    (wg : Vec Ideal S2048x2048 .bf16) (wp : Vec Ideal S256x2048 .bf16) (gf : Vec Ideal S1x2048 .f32) (x : Fin 512) (d : Fin 2048) :
    k0_pay1 (k0_pay2 y g wg p wp) (k0_pay3 gf) (k0_pay4 y g wg p wp) (ix2 x d)
      = k0_pay2 y g wg p wp (ix2 x d) * scaleOf (fun k => k0_pay2 y g wg p wp (ix2 x k)) * gf (ix2 0 d) := by
  unfold k0_pay4 scaleOf
  generalize k0_pay2 y g wg p wp = z
  pointwise [k0_pay1, k0_pay3]

/-- The block a point leaves, at one row and one column. -/
theorem block_at (y : Vec Ideal S512x2048 .f32) (p : Vec Ideal S512x256 .f32) (g : Vec Ideal S1x2048 .f32)
    (wg : Vec Ideal S2048x2048 .bf16) (wp : Vec Ideal S256x2048 .bf16) (gf : Vec Ideal S1x2048 .f32) (x : Fin 512) (d : Fin 2048) :
    out0_6 y p g wg wp gf (ix2 x d) = outRow (fun k => y (ix2 x k)) (fun j => p (ix2 x j)) (fun k => g (ix2 0 k))
      (fun k d => wg (ix2 k d)) (fun j d => wp (ix2 j d)) (fun k => gf (ix2 0 k)) d := by
  unfold out0_6
  rw [View.canon_unit_zero origin]
  simp only [View.ld_unit_zero (S := S512x2048) origin, View.ld_unit_zero (S := S512x256) origin,
    View.ld_unit_zero (S := S1x2048) origin, View.ld_unit_zero (S := S2048x2048) origin, View.ld_unit_zero (S := S256x2048) origin]
  rw [norm_at]
  simp only [mix_at]
  rfl

theorem blk_0 : ∀ t : Fin grid0.N, cc0_transform_0 (grid0.coords t) = ![t.val, 0] := by decide +kernel
theorem blk_1 : ∀ t : Fin grid0.N, cc0_transform_1 (grid0.coords t) = ![t.val, 0] := by decide +kernel
theorem blk_2 : ∀ t : Fin grid0.N, cc0_transform_2 (grid0.coords t) = ![0, 0] := by decide +kernel
theorem blk_3 : ∀ t : Fin grid0.N, cc0_transform_3 (grid0.coords t) = ![0, 0] := by decide +kernel
theorem blk_4 : ∀ t : Fin grid0.N, cc0_transform_4 (grid0.coords t) = ![0, 0] := by decide +kernel
theorem blk_5 : ∀ t : Fin grid0.N, cc0_transform_5 (grid0.coords t) = ![0, 0] := by decide +kernel
theorem blk_6 : ∀ t : Fin grid0.N, cc0_transform_6 (grid0.coords t) = ![t.val, 0] := by decide +kernel
theorem covers : (cfg0.win 6).Covers := by decide +kernel

variable (m : (ℓ : Loc nD τ sig) → Buf (Elt Ideal) ℓ) (c : Dev nD)

theorem in_0 (t : Fin grid0.N) (x : Fin 512) (d : Fin 2048) :
    (iblk m c 0 t : Vec Ideal S512x2048 .f32) (ix2 x d) = (V m c main_v0 : FVec Ideal S32768x2048 .f32) (ix2 (rowOf t x) d) := by
  have h : (iblk m c 0 t : Vec Ideal S512x2048 .f32) (ix2 x d) = (V m c main_v0 : FVec Ideal S32768x2048 .f32)
      ((Rect.block (s := S32768x2048) S512x2048.size (cc0_transform_0 (grid0.coords t)) (hinb0_0 _)).emb (ix2 x d)) := rfl
  rw [h, Tiles.emb_rows t _ (blk_0 t)]
theorem in_1 (t : Fin grid0.N) (x : Fin 512) (j : Fin 256) :
    (iblk m c 1 t : Vec Ideal S512x256 .f32) (ix2 x j) = (V m c main_v1 : FVec Ideal S32768x256 .f32) (ix2 (rowOf t x) j) := by
  have h : (iblk m c 1 t : Vec Ideal S512x256 .f32) (ix2 x j) = (V m c main_v1 : FVec Ideal S32768x256 .f32)
      ((Rect.block (s := S32768x256) S512x256.size (cc0_transform_1 (grid0.coords t)) (hinb0_1 _)).emb (ix2 x j)) := rfl
  rw [h, Tiles.emb_rows t _ (blk_1 t)]
theorem in_2 (t : Fin grid0.N) (d : Fin 2048) :
    (iblk m c 2 t : Vec Ideal S1x2048 .f32) (ix2 0 d) = (V m c main_v2 : FVec Ideal S1x2048 .f32) (ix2 0 d) := by
  have h : (iblk m c 2 t : Vec Ideal S1x2048 .f32) (ix2 0 d) = (V m c main_v2 : FVec Ideal S1x2048 .f32)
      ((Rect.block (s := S1x2048) S1x2048.size (cc0_transform_2 (grid0.coords t)) (hinb0_2 _)).emb (ix2 (0 : Fin 1) d)) := rfl
  rw [h, Tiles.emb_whole _ (blk_2 t)]
theorem in_3 (t : Fin grid0.N) (k d : Fin 2048) :
    (iblk m c 3 t : Vec Ideal S2048x2048 .bf16) (ix2 k d) = (V m c main_v3 : FVec Ideal S2048x2048 .bf16) (ix2 k d) := by
  have h : (iblk m c 3 t : Vec Ideal S2048x2048 .bf16) (ix2 k d) = (V m c main_v3 : FVec Ideal S2048x2048 .bf16)
      ((Rect.block (s := S2048x2048) S2048x2048.size (cc0_transform_3 (grid0.coords t)) (hinb0_3 _)).emb (ix2 k d)) := rfl
  rw [h, Tiles.emb_whole _ (blk_3 t)]
theorem in_4 (t : Fin grid0.N) (j : Fin 256) (d : Fin 2048) :
    (iblk m c 4 t : Vec Ideal S256x2048 .bf16) (ix2 j d) = (V m c main_v4 : FVec Ideal S256x2048 .bf16) (ix2 j d) := by
  have h : (iblk m c 4 t : Vec Ideal S256x2048 .bf16) (ix2 j d) = (V m c main_v4 : FVec Ideal S256x2048 .bf16)
      ((Rect.block (s := S256x2048) S256x2048.size (cc0_transform_4 (grid0.coords t)) (hinb0_4 _)).emb (ix2 j d)) := rfl
  rw [h, Tiles.emb_whole _ (blk_4 t)]
theorem in_5 (t : Fin grid0.N) (d : Fin 2048) :
    (iblk m c 5 t : Vec Ideal S1x2048 .f32) (ix2 0 d) = (V m c main_v5 : FVec Ideal S1x2048 .f32) (ix2 0 d) := by
  have h : (iblk m c 5 t : Vec Ideal S1x2048 .f32) (ix2 0 d) = (V m c main_v5 : FVec Ideal S1x2048 .f32)
      ((Rect.block (s := S1x2048) S1x2048.size (cc0_transform_5 (grid0.coords t)) (hinb0_5 _)).emb (ix2 (0 : Fin 1) d)) := rfl
  rw [h, Tiles.emb_whole _ (blk_5 t)]

/-- The rows of the arrays that the region finds, with their gated embedding added and normed. -/
abbrev leaves : FVec Ideal S32768x2048 .f32 :=
  outRows (V m c main_v0) (V m c main_v1) (V m c main_v2) (V m c main_v3) (V m c main_v4) (V m c main_v5)

theorem left (t : Fin grid0.N) (x : Fin 512) (d : Fin 2048) :
    out0_6 (iblk m c 0 t) (iblk m c 1 t) (iblk m c 2 t) (iblk m c 3 t) (iblk m c 4 t) (iblk m c 5 t) (ix2 x d)
      = leaves m c (ix2 (rowOf t x) d) := by
  rw [block_at]
  simp only [in_0, in_1, in_2, in_3, in_4, in_5]
  rfl

/-- The region's output array. -/
theorem array : (dats m 0 c).arrAt 6 cfg0.N = leaves m c := by
  refine (dats m 0 c).arrAt_eq_of_covers 6 _ covers fun t _ y => ?_
  obtain ⟨x, d, hy⟩ := Tiles.index_eq y
  subst hy
  have h1 : leaves m c ((Rect.block (s := S32768x2048) S512x2048.size (cc0_transform_6 (grid0.coords t)) (hinb0_6 _)).emb (ix2 x d))
      = out0_6 (iblk m c 0 t) (iblk m c 1 t) (iblk m c 2 t) (iblk m c 3 t) (iblk m c 4 t) (iblk m c 5 t) (ix2 x d) := by
    rw [Tiles.emb_rows t _ (blk_6 t), left]
  have h3 : ((cfg0.win 6).blk t).view.emb (ix2 x d) = (Rect.block (s := S32768x2048) S512x2048.size
      (cc0_transform_6 (grid0.coords t)) (hinb0_6 _)).emb (ix2 x d) := rfl
  refine Eq.trans ?_ (h1.symm.trans (congrArg (leaves m c) h3.symm))
  blk_simp
  rw [after0_6]

end Cert.Ple

end
-- ==== Proof.PleAlgebraic.lean ====
/-
  The per-layer embedding: its frames, and its result, which is the reference's, whatever the arguments.
-/
module

public import proofs.«01_k».proof.Defs
public import proofs.«01_k».proof.Proof.Gen.Kernel3
public import proofs.«01_k».proof.Proof.Gen.Kernel3Ideal.Value
public import proofs.«01_k».proof.Proof.PleRef
public import proofs.«01_k».proof.Proof.PleValue

@[expose] public section

noncomputable section

namespace Cert.Ple

open Idealize.ShloMosaic Idealize.ShloMosaic.TcCoe Cert.Kernel3Ideal Cert.Kernel3Ideal.Gen Idealize.ShloMosaic.StableHlo
open Idealize.SL.Sem

/-! The frames. -/

/-- The kernel and its idealization have the same body table. -/
theorem defs₀_eq : Cert.Kernel3.defs₀ (F := Bits) = Cert.Kernel3Ideal.defs₀ (F := Bits) := by
  refine congrArg Defs.onTc (funext fun l => ?_)
  match l with
  | ⟨0, _⟩ => exact funext fun a => rfl
  | ⟨_ + 1, h⟩ => exact absurd h (Nat.not_lt.2 (Nat.le_add_left _ _))
theorem defs_eq : Cert.Kernel3.defs (F := Bits) = Cert.Kernel3Ideal.defs (F := Bits) :=
  congrArg (Pipeline.defs Cert.Kernel3Ideal.pcfgs) defs₀_eq

/-- The kernel's frame: it runs, leaves its arguments unchanged and every semaphore counter at zero. -/
theorem frame_kernel : Cert.quiescent_Kernel3 (hKernel3 := Cert.Kernel3.Gen.facts) := fun m ρ _ => by
  rw [defs_eq]
  exact Cert.Kernel3Ideal.Gen.frame (F := Bits) m ρ

/-- The idealization's frame. -/
theorem frame_ideal : Cert.quiescent_Kernel3Ideal (hKernel3Ideal := Cert.Kernel3Ideal.Gen.facts) := fun m ρ _ =>
  Cert.Kernel3Ideal.Gen.frame (F := Ideal) m ρ

/-- The reference's frame: it declares no semaphore. -/
theorem frame_reference : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-! The arrays the host prepares. -/

variable (m : (ℓ : Loc nD τ sig) → Buf (Elt Ideal) ℓ) (c : Dev nD)

/-- The arguments as vectors: the tokens, the embeddings, the first norm's factors, the gate's weight, the embedding's and
    the last norm's factors. -/
abbrev argAt0 : FVec Ideal S2x16384x2048 .f32 := m ((c.tc : Thread nD τ).loc main_arg0)
abbrev argAt1 : FVec Ideal S2x16384x256 .f32 := m ((c.tc : Thread nD τ).loc main_arg1)
abbrev argAt2 : FVec Ideal S2048 .f32 := m ((c.tc : Thread nD τ).loc main_arg2)
abbrev argAt3 : FVec Ideal S2048x2048 .f32 := m ((c.tc : Thread nD τ).loc main_arg3)
abbrev argAt4 : FVec Ideal S256x2048 .f32 := m ((c.tc : Thread nD τ).loc main_arg4)
abbrev argAt5 : FVec Ideal S2048 .f32 := m ((c.tc : Thread nD τ).loc main_arg5)

theorem tokens_eq : (V m c main_v0 : FVec Ideal S32768x2048 .f32)
    = shapeCast _ (argAt0 m c) shapeCasts_S2x16384x2048_S32768x2048 := by
  unfold V
  after_results <;> rfl
theorem embeddings_eq : (V m c main_v1 : FVec Ideal S32768x256 .f32)
    = shapeCast _ (argAt1 m c) shapeCasts_S2x16384x256_S32768x256 := by
  unfold V
  after_results <;> rfl
theorem factors_eq : (V m c main_v2 : FVec Ideal S1x2048 .f32) = shapeCast _ (argAt2 m c) shapeCasts_S2048_S1x2048 := by
  unfold V
  after_results <;> rfl
theorem gate_eq : (V m c main_v3 : FVec Ideal S2048x2048 .bf16) = truncf (φ := .f32) .bf16 (argAt3 m c) bitsLt_bf16_f32 := by
  unfold V
  after_results <;> rfl
theorem embed_eq : (V m c main_v4 : FVec Ideal S256x2048 .bf16) = truncf (φ := .f32) .bf16 (argAt4 m c) bitsLt_bf16_f32 := by
  unfold V
  after_results <;> rfl
theorem last_eq : (V m c main_v5 : FVec Ideal S1x2048 .f32) = shapeCast _ (argAt5 m c) shapeCasts_S2048_S1x2048 := by
  unfold V
  after_results <;> rfl

theorem tokens_at (q : Fin 32768) (d : Fin 2048) : (V m c main_v0 : FVec Ideal S32768x2048 .f32) (ix2 q d)
    = argAt0 m c (ix3 (⟨q.val / 16384, by omega⟩ : Fin 2) (⟨q.val % 16384, by omega⟩ : Fin 16384) d) := by
  rw [tokens_eq]
  generalize argAt0 m c = x
  pointwise
theorem embeddings_at (q : Fin 32768) (j : Fin 256) : (V m c main_v1 : FVec Ideal S32768x256 .f32) (ix2 q j)
    = argAt1 m c (ix3 (⟨q.val / 16384, by omega⟩ : Fin 2) (⟨q.val % 16384, by omega⟩ : Fin 16384) j) := by
  rw [embeddings_eq]
  generalize argAt1 m c = p
  pointwise
theorem factors_at (d : Fin 2048) : (V m c main_v2 : FVec Ideal S1x2048 .f32) (ix2 0 d) = argAt2 m c (ix1 d) := by
  rw [factors_eq]
  generalize argAt2 m c = g
  pointwise
theorem gate_at (k d : Fin 2048) : (V m c main_v3 : FVec Ideal S2048x2048 .bf16) (ix2 k d) = argAt3 m c (ix2 k d) := by
  rw [gate_eq]
  rfl
theorem embed_at (j : Fin 256) (d : Fin 2048) : (V m c main_v4 : FVec Ideal S256x2048 .bf16) (ix2 j d) = argAt4 m c (ix2 j d) := by
  rw [embed_eq]
  rfl
theorem last_at (d : Fin 2048) : (V m c main_v5 : FVec Ideal S1x2048 .f32) (ix2 0 d) = argAt5 m c (ix1 d) := by
  rw [last_eq]
  generalize argAt5 m c = g
  pointwise

/-- The reference's result array, of this program's arguments. -/
abbrev expected : FVec Ideal S32768x2048 .f32 :=
  Ref.expected (argAt0 m c) (argAt1 m c) (argAt2 m c) (argAt3 m c) (argAt4 m c) (argAt5 m c)

/-- Equal rows, embeddings, factors and weights give equal results. -/
theorem outRow_congr {y y' : Fin 2048 → EReal} {p p' : Fin 256 → EReal} {g g' : Fin 2048 → EReal} {wg wg' : Fin 2048 → Fin 2048 → EReal}
    {wp wp' : Fin 256 → Fin 2048 → EReal} {gf gf' : Fin 2048 → EReal} (hy : y = y') (hp : p = p') (hg : g = g') (hwg : wg = wg')
    (hwp : wp = wp') (hgf : gf = gf') (d : Fin 2048) : outRow y p g wg wp gf d = outRow y' p' g' wg' wp' gf' d := by
  rw [hy, hp, hg, hwg, hwp, hgf]

/-- The region's output array is the reference's result. -/
theorem leaves_eq : leaves m c = expected m c := by
  funext i
  obtain ⟨q, d, rfl⟩ := Tiles.index_eq i
  unfold expected
  rw [Ref.expected_at, Ffn.Ref.normed_at]
  simp only [Ref.mixed_at, Ref.gates_at, Ref.embedded_at, Ffn.Ref.normed_at]
  exact outRow_congr (funext (tokens_at m c q)) (funext (embeddings_at m c q)) (funext (factors_at m c))
    (funext fun k => funext (gate_at m c k)) (funext fun j => funext (embed_at m c j)) (funext (last_at m c)) d

/-- The kernel's result array is the reference's. -/
theorem algebraic : Cert.algebraic_Kernel3Ideal_Reference3Ideal
    (hKernel3Ideal := Cert.Kernel3Ideal.Gen.facts) (hReference3Ideal := Cert.Reference3Ideal.Gen.facts) := by
  intro m g m' g' _ hargs
  refine ⟨fun c => expected m c, ?_, ?_⟩
  · exact (θ_run Cert.Kernel3Ideal.defs _ _).mono
      (fun _ h c => ⟨(h c).1.trans ((array m c).trans (leaves_eq m c)), (h c).2⟩) (Cert.Kernel3Ideal.Value.run_blocks (F := Ideal) m g)
  · refine (θ_run Cert.Reference3Ideal.defs _ _).mono (fun _ h c => ⟨(h c).1.trans ?_, (h c).2⟩)
      (Cert.Reference3Ideal.Value.run (F := Ideal) m' g')
    unfold Cert.Reference3Ideal.Value.res_main_v36
    obtain ⟨h0, h1, h2, h3, h4, h5⟩ := hargs c
    rw [h0, h1, h2, h3, h4, h5]
    rfl

end Cert.Ple

end
-- ==== Proof.OutRef.lean ====
/-
  The reference's output projection at one token and one column, over the extended reals.
-/
module

public import proofs.«01_k».proof.Proof.Gen.Reference4Ideal.Run
public import Idealize.ShloMosaic.Lib.Pointwise

@[expose] public section

noncomputable section

namespace Cert.Out.Ref

open Idealize.ShloMosaic Cert.Reference4Ideal Cert.Reference4Ideal.Gen

/-- The two arrays side by side. -/
def beside (a r : FVec Ideal S2x16384x1024 .f32) : FVec Ideal S2x16384x2048 .f32 :=
  concatenate S2x16384x2048 2 [⟨S2x16384x1024, a⟩, ⟨S2x16384x1024, r⟩]
    concatenates_S2x16384x1024_S2x16384x1024_S2x16384x2048_d2

/-- The tokens and the two results side by side times the weight, as rows. -/
def expected (x : FVec Ideal S2x16384x2048 .f32) (a r : FVec Ideal S2x16384x1024 .f32) (w : FVec Ideal S2048x2048 .f32) :
    FVec Ideal S32768x2048 .f32 :=
  shapeCast _ (addf x (Host.dotGeneral dot_S2x16384x2048_S2048x2048_S2x16384x2048_2_0_01_1_n_n none
    (beside a r) w)) shapeCasts_S2x16384x2048_S32768x2048

theorem beside_first (a r : FVec Ideal S2x16384x1024 .f32) (b : Fin 2) (s : Fin 16384) (k : Fin 1024) :
    beside a r (ix3 b s (⟨k.val, by omega⟩ : Fin 2048)) = a (ix3 b s k) := by
  pointwise [beside]
theorem beside_second (a r : FVec Ideal S2x16384x1024 .f32) (b : Fin 2) (s : Fin 16384) (k : Fin 1024) :
    beside a r (ix3 b s (⟨1024 + k.val, by omega⟩ : Fin 2048)) = r (ix3 b s k) := by
  pointwise [beside]

theorem expected_at (x : FVec Ideal S2x16384x2048 .f32) (a r : FVec Ideal S2x16384x1024 .f32) (w : FVec Ideal S2048x2048 .f32)
    (q : Fin 32768) (d : Fin 2048) :
    expected x a r w (ix2 q d) = x (ix3 ⟨q.val / 16384, by omega⟩ ⟨q.val % 16384, by omega⟩ d)
      + ∑ k : Fin 2048, beside a r (ix3 ⟨q.val / 16384, by omega⟩ ⟨q.val % 16384, by omega⟩ k) * w (ix2 k d) := by
  unfold expected
  generalize beside a r = ar
  pointwise [dot_S2x16384x2048_S2048x2048_S2x16384x2048_2_0_01_1_n_n]

end Cert.Out.Ref

end
-- ==== Proof.OutValue.lean ====
/-
  The array that the output projection leaves: the tokens, the attention's result times the upper half of the weight and the
  recurrence's result times its lower half.
-/
module

public import proofs.«01_k».proof.Proof.Gen.Kernel4Ideal.Frame
public import proofs.«01_k».proof.Proof.Tiles
public import Idealize.ShloMosaic.Lib.Pipeline.Value
public import Idealize.ShloMosaic.Lib.Pipeline.ValueKit.Geometry

@[expose] public section

noncomputable section

namespace Cert.Out

open Idealize.ShloMosaic Idealize.ShloMosaic.TcCoe Cert.Kernel4Ideal Cert.Kernel4Ideal.Gen Idealize.ShloMosaic.Pipeline
open Idealize.ShloMosaic.StableHlo

/-- The rows with the two products added. -/
def projected (y : FVec Ideal S32768x2048 .f32) (a r : FVec Ideal S32768x1024 .bf16) (wa wr : FVec Ideal S1024x2048 .bf16) :
    FVec Ideal S32768x2048 .f32 :=
  fun i => y i + ∑ k : Fin 1024, a (ix2 (i 0) k) * wa (ix2 k (i 1)) + ∑ k : Fin 1024, r (ix2 (i 0) k) * wr (ix2 k (i 1))

/-- The block a point leaves, at one row and one column. -/
theorem block_at (y : Vec Ideal S512x2048 .f32) (a r : Vec Ideal S512x1024 .bf16) (wa wr : Vec Ideal S1024x2048 .bf16)
    (x : Fin 512) (d : Fin 2048) :
    out0_5 y a r wa wr (ix2 x d) = y (ix2 x d) + ∑ k : Fin 1024, a (ix2 x k) * wa (ix2 k d) + ∑ k : Fin 1024, r (ix2 x k) * wr (ix2 k d) := by
  unfold out0_5
  rw [View.canon_unit_zero Ffn.origin]
  simp only [View.ld_unit_zero (S := S512x2048) Ffn.origin, View.ld_unit_zero (S := S512x1024) Ffn.origin,
    View.ld_unit_zero (S := S1024x2048) Ffn.origin]
  pointwise [k0_pay1, dot_S512x1024_S1024x2048_S512x2048_1_0_0_1_n_n]

theorem blk_0 : ∀ t : Fin grid0.N, cc0_transform_0 (grid0.coords t) = ![t.val, 0] := by decide +kernel
theorem blk_1 : ∀ t : Fin grid0.N, cc0_transform_1 (grid0.coords t) = ![t.val, 0] := by decide +kernel
theorem blk_2 : ∀ t : Fin grid0.N, cc0_transform_2 (grid0.coords t) = ![t.val, 0] := by decide +kernel
theorem blk_3 : ∀ t : Fin grid0.N, cc0_transform_3 (grid0.coords t) = ![0, 0] := by decide +kernel
theorem blk_4 : ∀ t : Fin grid0.N, cc0_transform_4 (grid0.coords t) = ![0, 0] := by decide +kernel
theorem blk_5 : ∀ t : Fin grid0.N, cc0_transform_5 (grid0.coords t) = ![t.val, 0] := by decide +kernel
theorem covers : (cfg0.win 5).Covers := by decide +kernel

variable (m : (ℓ : Loc nD τ sig) → Buf (Elt Ideal) ℓ) (c : Dev nD)

theorem in_0 (t : Fin grid0.N) (x : Fin 512) (d : Fin 2048) :
    (iblk m c 0 t : Vec Ideal S512x2048 .f32) (ix2 x d) = (V m c main_v3 : FVec Ideal S32768x2048 .f32) (ix2 (Ffn.rowOf t x) d) := by
  have h : (iblk m c 0 t : Vec Ideal S512x2048 .f32) (ix2 x d) = (V m c main_v3 : FVec Ideal S32768x2048 .f32)
      ((Rect.block (s := S32768x2048) S512x2048.size (cc0_transform_0 (grid0.coords t)) (hinb0_0 _)).emb (ix2 x d)) := rfl
  rw [h, Tiles.emb_rows t _ (blk_0 t)]
theorem in_1 (t : Fin grid0.N) (x : Fin 512) (k : Fin 1024) :
    (iblk m c 1 t : Vec Ideal S512x1024 .bf16) (ix2 x k) = (V m c main_v4 : FVec Ideal S32768x1024 .bf16) (ix2 (Ffn.rowOf t x) k) := by
  have h : (iblk m c 1 t : Vec Ideal S512x1024 .bf16) (ix2 x k) = (V m c main_v4 : FVec Ideal S32768x1024 .bf16)
      ((Rect.block (s := S32768x1024) S512x1024.size (cc0_transform_1 (grid0.coords t)) (hinb0_1 _)).emb (ix2 x k)) := rfl
  rw [h, Tiles.emb_rows t _ (blk_1 t)]
theorem in_2 (t : Fin grid0.N) (x : Fin 512) (k : Fin 1024) :
    (iblk m c 2 t : Vec Ideal S512x1024 .bf16) (ix2 x k) = (V m c main_v5 : FVec Ideal S32768x1024 .bf16) (ix2 (Ffn.rowOf t x) k) := by
  have h : (iblk m c 2 t : Vec Ideal S512x1024 .bf16) (ix2 x k) = (V m c main_v5 : FVec Ideal S32768x1024 .bf16)
      ((Rect.block (s := S32768x1024) S512x1024.size (cc0_transform_2 (grid0.coords t)) (hinb0_2 _)).emb (ix2 x k)) := rfl
  rw [h, Tiles.emb_rows t _ (blk_2 t)]
theorem in_3 (t : Fin grid0.N) (k : Fin 1024) (d : Fin 2048) :
    (iblk m c 3 t : Vec Ideal S1024x2048 .bf16) (ix2 k d) = (V m c main_v6 : FVec Ideal S1024x2048 .bf16) (ix2 k d) := by
  have h : (iblk m c 3 t : Vec Ideal S1024x2048 .bf16) (ix2 k d) = (V m c main_v6 : FVec Ideal S1024x2048 .bf16)
      ((Rect.block (s := S1024x2048) S1024x2048.size (cc0_transform_3 (grid0.coords t)) (hinb0_3 _)).emb (ix2 k d)) := rfl
  rw [h, Tiles.emb_whole _ (blk_3 t)]
theorem in_4 (t : Fin grid0.N) (k : Fin 1024) (d : Fin 2048) :
    (iblk m c 4 t : Vec Ideal S1024x2048 .bf16) (ix2 k d) = (V m c main_v7 : FVec Ideal S1024x2048 .bf16) (ix2 k d) := by
  have h : (iblk m c 4 t : Vec Ideal S1024x2048 .bf16) (ix2 k d) = (V m c main_v7 : FVec Ideal S1024x2048 .bf16)
      ((Rect.block (s := S1024x2048) S1024x2048.size (cc0_transform_4 (grid0.coords t)) (hinb0_4 _)).emb (ix2 k d)) := rfl
  rw [h, Tiles.emb_whole _ (blk_4 t)]

/-- The projected rows of the arrays that the region finds. -/
abbrev leaves : FVec Ideal S32768x2048 .f32 := projected (V m c main_v3) (V m c main_v4) (V m c main_v5) (V m c main_v6) (V m c main_v7)

theorem left (t : Fin grid0.N) (x : Fin 512) (d : Fin 2048) :
    out0_5 (iblk m c 0 t) (iblk m c 1 t) (iblk m c 2 t) (iblk m c 3 t) (iblk m c 4 t) (ix2 x d) = leaves m c (ix2 (Ffn.rowOf t x) d) := by
  rw [block_at]
  refine congrArg₂ (· + ·) (congrArg₂ (· + ·) (in_0 m c t x d) (Finset.sum_congr rfl fun k _ => ?_)) (Finset.sum_congr rfl fun k _ => ?_)
  · exact congrArg₂ (· * ·) (in_1 m c t x k) (in_3 m c t k d)
  · exact congrArg₂ (· * ·) (in_2 m c t x k) (in_4 m c t k d)

/-- The region's output array. -/
theorem array : (dats m 0 c).arrAt 5 cfg0.N = leaves m c := by
  refine (dats m 0 c).arrAt_eq_of_covers 5 _ covers fun t _ y => ?_
  obtain ⟨x, d, hy⟩ := Tiles.index_eq y
  subst hy
  have h1 : leaves m c ((Rect.block (s := S32768x2048) S512x2048.size (cc0_transform_5 (grid0.coords t)) (hinb0_5 _)).emb (ix2 x d))
      = out0_5 (iblk m c 0 t) (iblk m c 1 t) (iblk m c 2 t) (iblk m c 3 t) (iblk m c 4 t) (ix2 x d) := by
    rw [Tiles.emb_rows t _ (blk_5 t), left]
  have h3 : ((cfg0.win 5).blk t).view.emb (ix2 x d) = (Rect.block (s := S32768x2048) S512x2048.size
      (cc0_transform_5 (grid0.coords t)) (hinb0_5 _)).emb (ix2 x d) := rfl
  refine Eq.trans ?_ (h1.symm.trans (congrArg (leaves m c) h3.symm))
  blk_simp
  rw [after0_5]

end Cert.Out

end
-- ==== Proof.OutAlgebraic.lean ====
/-
  The output projection: its frames, and its result, which is the reference's, whatever the arguments.
-/
module

public import proofs.«01_k».proof.Defs
public import proofs.«01_k».proof.Proof.Gen.Kernel4
public import proofs.«01_k».proof.Proof.Gen.Kernel4Ideal.Value
public import proofs.«01_k».proof.Proof.OutRef
public import proofs.«01_k».proof.Proof.OutValue

@[expose] public section

noncomputable section

namespace Cert.Out

open Idealize.ShloMosaic Idealize.ShloMosaic.TcCoe Cert.Kernel4Ideal Cert.Kernel4Ideal.Gen Idealize.ShloMosaic.StableHlo
open Idealize.SL.Sem

/-! The frames. -/

/-- The kernel and its idealization have the same body table. -/
theorem defs₀_eq : Cert.Kernel4.defs₀ (F := Bits) = Cert.Kernel4Ideal.defs₀ (F := Bits) := by
  refine congrArg Defs.onTc (funext fun l => ?_)
  match l with
  | ⟨0, _⟩ => exact funext fun a => rfl
  | ⟨_ + 1, h⟩ => exact absurd h (Nat.not_lt.2 (Nat.le_add_left _ _))
theorem defs_eq : Cert.Kernel4.defs (F := Bits) = Cert.Kernel4Ideal.defs (F := Bits) :=
  congrArg (Pipeline.defs Cert.Kernel4Ideal.pcfgs) defs₀_eq

/-- The kernel's frame: it runs, leaves its arguments unchanged and every semaphore counter at zero. -/
theorem frame_kernel : Cert.quiescent_Kernel4 (hKernel4 := Cert.Kernel4.Gen.facts) := fun m ρ _ => by
  rw [defs_eq]
  exact Cert.Kernel4Ideal.Gen.frame (F := Bits) m ρ

/-- The idealization's frame. -/
theorem frame_ideal : Cert.quiescent_Kernel4Ideal (hKernel4Ideal := Cert.Kernel4Ideal.Gen.facts) := fun m ρ _ =>
  Cert.Kernel4Ideal.Gen.frame (F := Ideal) m ρ

/-- The reference's frame: it declares no semaphore. -/
theorem frame_reference : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-! The arrays the host prepares. -/

variable (m : (ℓ : Loc nD τ sig) → Buf (Elt Ideal) ℓ) (c : Dev nD)

/-- The arguments as vectors: the tokens, the attention's result, the recurrence's and the weight. -/
abbrev argAt0 : FVec Ideal S2x16384x2048 .f32 := m ((c.tc : Thread nD τ).loc main_arg0)
abbrev argAt1 : FVec Ideal S2x16384x1024 .f32 := m ((c.tc : Thread nD τ).loc main_arg1)
abbrev argAt2 : FVec Ideal S2x16384x1024 .f32 := m ((c.tc : Thread nD τ).loc main_arg2)
abbrev argAt3 : FVec Ideal S2048x2048 .f32 := m ((c.tc : Thread nD τ).loc main_arg3)

theorem tokens_eq : (V m c main_v3 : FVec Ideal S32768x2048 .f32)
    = shapeCast _ (argAt0 m c) shapeCasts_S2x16384x2048_S32768x2048 := by
  unfold V
  after_results <;> rfl
theorem attended_eq : (V m c main_v4 : FVec Ideal S32768x1024 .bf16)
    = shapeCast _ (truncf (φ := .f32) .bf16 (argAt1 m c) bitsLt_bf16_f32) shapeCasts_S2x16384x1024_S32768x1024 := by
  unfold V
  after_results <;> rfl
theorem recurred_eq : (V m c main_v5 : FVec Ideal S32768x1024 .bf16)
    = shapeCast _ (truncf (φ := .f32) .bf16 (argAt2 m c) bitsLt_bf16_f32) shapeCasts_S2x16384x1024_S32768x1024 := by
  unfold V
  after_results <;> rfl
theorem upper_eq : (V m c main_v6 : FVec Ideal S1024x2048 .bf16)
    = extractStridedSlice S1024x2048 ![0, 0] (truncf (φ := .f32) .bf16 (argAt3 m c) bitsLt_bf16_f32) slices_S2048x2048_S1024x2048_0_0 := by
  unfold V
  after_results <;> rfl
theorem lower_eq : (V m c main_v7 : FVec Ideal S1024x2048 .bf16)
    = extractStridedSlice S1024x2048 ![1024, 0] (truncf (φ := .f32) .bf16 (argAt3 m c) bitsLt_bf16_f32) slices_S2048x2048_S1024x2048_1024_0 := by
  unfold V
  after_results <;> rfl

theorem tokens_at (q : Fin 32768) (d : Fin 2048) : (V m c main_v3 : FVec Ideal S32768x2048 .f32) (ix2 q d)
    = argAt0 m c (ix3 (⟨q.val / 16384, by omega⟩ : Fin 2) (⟨q.val % 16384, by omega⟩ : Fin 16384) d) := by
  rw [tokens_eq]
  generalize argAt0 m c = x
  pointwise
theorem attended_at (q : Fin 32768) (k : Fin 1024) : (V m c main_v4 : FVec Ideal S32768x1024 .bf16) (ix2 q k)
    = argAt1 m c (ix3 (⟨q.val / 16384, by omega⟩ : Fin 2) (⟨q.val % 16384, by omega⟩ : Fin 16384) k) := by
  rw [attended_eq]
  generalize argAt1 m c = x
  pointwise
theorem recurred_at (q : Fin 32768) (k : Fin 1024) : (V m c main_v5 : FVec Ideal S32768x1024 .bf16) (ix2 q k)
    = argAt2 m c (ix3 (⟨q.val / 16384, by omega⟩ : Fin 2) (⟨q.val % 16384, by omega⟩ : Fin 16384) k) := by
  rw [recurred_eq]
  generalize argAt2 m c = x
  pointwise
theorem upper_at (k : Fin 1024) (d : Fin 2048) : (V m c main_v6 : FVec Ideal S1024x2048 .bf16) (ix2 k d)
    = argAt3 m c (ix2 (⟨k.val, by omega⟩ : Fin 2048) d) := by
  rw [upper_eq]
  generalize argAt3 m c = w
  pointwise
theorem lower_at (k : Fin 1024) (d : Fin 2048) : (V m c main_v7 : FVec Ideal S1024x2048 .bf16) (ix2 k d)
    = argAt3 m c (ix2 (⟨1024 + k.val, by omega⟩ : Fin 2048) d) := by
  rw [lower_eq]
  generalize argAt3 m c = w
  pointwise

/-- The region's output array is the reference's result. -/
theorem leaves_eq : leaves m c = Ref.expected (argAt0 m c) (argAt1 m c) (argAt2 m c) (argAt3 m c) := by
  funext i
  obtain ⟨q, d, rfl⟩ := Tiles.index_eq i
  rw [Ref.expected_at, Ffn.sum_split 1024 1024 rfl, ← add_assoc]
  refine congrArg₂ (· + ·) (congrArg₂ (· + ·) (tokens_at m c q d) (Finset.sum_congr rfl fun k _ => ?_)) (Finset.sum_congr rfl fun k _ => ?_)
  · exact congrArg₂ (· * ·) ((attended_at m c q k).trans (Ref.beside_first _ _ _ _ k).symm) (upper_at m c k d)
  · exact congrArg₂ (· * ·) ((recurred_at m c q k).trans (Ref.beside_second _ _ _ _ k).symm) (lower_at m c k d)

/-- The kernel's result array is the reference's. -/
theorem algebraic : Cert.algebraic_Kernel4Ideal_Reference4Ideal
    (hKernel4Ideal := Cert.Kernel4Ideal.Gen.facts) (hReference4Ideal := Cert.Reference4Ideal.Gen.facts) := by
  intro m g m' g' _ hargs
  refine ⟨fun c => Ref.expected (argAt0 m c) (argAt1 m c) (argAt2 m c) (argAt3 m c), ?_, ?_⟩
  · exact (θ_run Cert.Kernel4Ideal.defs _ _).mono
      (fun _ h c => ⟨(h c).1.trans ((array m c).trans (leaves_eq m c)), (h c).2⟩) (Cert.Kernel4Ideal.Value.run_blocks (F := Ideal) m g)
  · refine (θ_run Cert.Reference4Ideal.defs _ _).mono (fun _ h c => ⟨(h c).1.trans ?_, (h c).2⟩)
      (Cert.Reference4Ideal.Value.run (F := Ideal) m' g')
    obtain ⟨h0, h1, h2, h3⟩ := hargs c
    rw [h0, h1, h2, h3]
    rfl

end Cert.Out

end
-- ==== Proof.lean ====
module

public import proofs.«01_k».proof.Proof.Gen.Kernel3
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4Ideal.Frame
public import proofs.«01_k».proof.Proof.Gen.Kernel4Ideal.Value
public import proofs.«01_k».proof.Proof.Gen.Reference4Ideal.Run
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import proofs.«01_k».proof.Proof.FfnRun
public import proofs.«01_k».proof.Proof.FfnAlgebraic
public import proofs.«01_k».proof.Proof.PleAlgebraic
public import proofs.«01_k».proof.Proof.OutAlgebraic
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel2
public import Idealize.ShloMosaic.Adequacy
public import Idealize.ShloMosaic.Init

@[expose] public section

noncomputable section

namespace Cert.Proof

open Idealize.ShloMosaic Idealize.SL.Sem Cert.Kernel

/-- Everything claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Attn.preFacts,
  Cert.Attn.frame_kernel, Cert.Attn.frame_ideal, Cert.Attn.frame_ideal_pre, Cert.Attn.frame_reference, Cert.Attn.frame_reference_pre,
  Cert.Ffn.frame_kernel, Cert.Ffn.frame_ideal, Cert.Ffn.frame_reference,
  Cert.Ple.frame_kernel, Cert.Ple.frame_ideal, Cert.Ple.frame_reference,
  Cert.Out.frame_kernel, Cert.Out.frame_ideal, Cert.Out.frame_reference,
  trivial, Cert.Attn.algebraic, trivial, Cert.Ffn.algebraic, trivial, Cert.Ple.algebraic, trivial, Cert.Out.algebraic⟩

end Cert.Proof

end
